-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "guard" .f32 0x5F0AC723#32 ⊤
  ∧ IdealRules.sign_bit.Statement Cert.KernelIdeal.S16x256 .f32
  ∧ IdealRules.named_const.Statement Cert.KernelIdeal.κ "cap" .f32 0x7F61B1E6#32 ⊤

def algebraic_KernelIdeal_ReferenceIdeal_on_rows_written [hKernelIdeal : Cert.KernelIdeal.Facts] [hReferenceIdeal : Cert.ReferenceIdeal.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![400000, 7]⟩ : Shape).Idx, (Cert.On_rows_written.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![400000, 7]⟩ : Shape).Idx, (Cert.On_rows_written.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v103) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_rows_written : Cert.On_rows_written.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rows_written (hKernelIdeal := hKernelIdeal) (hReferenceIdeal := hReferenceIdeal) (hOn_rows_written := hOn_rows_written)
-- ==== On_rows_written.lean ====
abbrev S400000x10x4 : Shape := ⟨3, ![400000, 10, 4]⟩
abbrev S400000x7 : Shape := ⟨2, ![400000, 7]⟩
abbrev S_ : Shape := ⟨0, ![]⟩

class Facts : Prop where
  bcast_S_S400000x7 : S_.BroadcastsInDim S400000x7 (![] : Fin 0 → Fin S400000x7.rank)

variable [Facts]

def fn {F : FTy → Type} [FloatOps F] (main_arg0 : FVec F S400000x10x4 .f32) : IVec S400000x7 1 :=
  let main_v0 : IVec S400000x7 32 := iotaInDim S400000x7 32 0
  let main_c : IVec S_ 32 := constantI S_ 32 399360#32
  let main_v1 : IVec S400000x7 32 := broadcastInDim S400000x7 ![] bcast_S_S400000x7 main_c
  let main_v2 : IVec S400000x7 1 := cmpi .slt main_v0 main_v1
  main_v2
-- ==== Kernel.lean ====
abbrev S400000x10x4 : Shape := ⟨3, ![400000, 10, 4]⟩
abbrev S40x48 : Shape := ⟨2, ![40, 48]⟩
abbrev S48x16 : Shape := ⟨2, ![48, 16]⟩
abbrev S1x640 : Shape := ⟨2, ![1, 640]⟩
abbrev S640x8 : Shape := ⟨2, ![640, 8]⟩
abbrev S400000x40 : Shape := ⟨2, ![400000, 40]⟩
abbrev S400000x7 : Shape := ⟨2, ![400000, 7]⟩
abbrev S1024x40 : Shape := ⟨2, ![1024, 40]⟩
abbrev S1024x7 : Shape := ⟨2, ![1024, 7]⟩
abbrev S256x40 : Shape := ⟨2, ![256, 40]⟩
abbrev S256x48 : Shape := ⟨2, ![256, 48]⟩
abbrev S48x256 : Shape := ⟨2, ![48, 256]⟩
abbrev S16x256 : Shape := ⟨2, ![16, 256]⟩
abbrev S256x80 : Shape := ⟨2, ![256, 80]⟩
abbrev S256x128 : Shape := ⟨2, ![256, 128]⟩
abbrev S1x128 : Shape := ⟨2, ![1, 128]⟩
abbrev S256x128x1 : Shape := ⟨3, ![256, 128, 1]⟩
abbrev S256 : Shape := ⟨1, ![256]⟩
abbrev S256x1 : Shape := ⟨2, ![256, 1]⟩
abbrev S128x8 : Shape := ⟨2, ![128, 8]⟩
abbrev S256x8 : Shape := ⟨2, ![256, 8]⟩
abbrev S256x4 : Shape := ⟨2, ![256, 4]⟩

abbrev nBuf : Space → Nat
  | .hbm => 9
  | .vmem => 10
  | .smem => 0
  | _ => 0

abbrev bufTy : (tb : Table) → Fin (tcTables nBuf tb) → BufTy
  | .hbm, ⟨0, _⟩ => ⟨S400000x10x4, .f32⟩
  | .hbm, ⟨1, _⟩ => ⟨S40x48, .f32⟩
  | .hbm, ⟨2, _⟩ => ⟨S48x16, .f32⟩
  | .hbm, ⟨3, _⟩ => ⟨S1x640, .i32⟩
  | .hbm, ⟨4, _⟩ => ⟨S1x640, .i32⟩
  | .hbm, ⟨5, _⟩ => ⟨S1x640, .f32⟩
  | .hbm, ⟨6, _⟩ => ⟨S640x8, .f32⟩
  | .hbm, ⟨7, _⟩ => ⟨S400000x40, .f32⟩
  | .hbm, ⟨8, _⟩ => ⟨S400000x7, .f32⟩
  | .local _ .vmem, ⟨0, _⟩ => ⟨S1024x40, .f32⟩
  | .local _ .vmem, ⟨1, _⟩ => ⟨S1024x40, .f32⟩
  | .local _ .vmem, ⟨2, _⟩ => ⟨S40x48, .f32⟩
  | .local _ .vmem, ⟨3, _⟩ => ⟨S48x16, .f32⟩
  | .local _ .vmem, ⟨4, _⟩ => ⟨S1x640, .i32⟩
  | .local _ .vmem, ⟨5, _⟩ => ⟨S1x640, .i32⟩
  | .local _ .vmem, ⟨6, _⟩ => ⟨S1x640, .f32⟩
  | .local _ .vmem, ⟨7, _⟩ => ⟨S640x8, .f32⟩
  | .local _ .vmem, ⟨8, _⟩ => ⟨S1024x7, .f32⟩
  | .local _ .vmem, ⟨9, _⟩ => ⟨S1024x7, .f32⟩
  | _, _ => ⟨S400000x10x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_c : Ref sig .tc := ⟨.hbm, 3, rfl⟩
abbrev main_call0_c_1 : Ref sig .tc := ⟨.hbm, 4, rfl⟩
abbrev main_call0_cst_2 : Ref sig .tc := ⟨.hbm, 5, rfl⟩
abbrev main_call0_cst_3 : Ref sig .tc := ⟨.hbm, 6, rfl⟩
abbrev main_call0_v0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨1, ![390], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x7 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "cap" => some ⊤
  | "guard" => some ⊤
  | _ => none
-- ==== ReferenceIdeal.lean ====
abbrev S400000x10x4 : Shape := ⟨3, ![400000, 10, 4]⟩
abbrev S45x2 : Shape := ⟨2, ![45, 2]⟩
abbrev S630x2 : Shape := ⟨2, ![630, 2]⟩
abbrev S400000x10x1 : Shape := ⟨3, ![400000, 10, 1]⟩
abbrev S400000x10 : Shape := ⟨2, ![400000, 10]⟩
abbrev S45x1 : Shape := ⟨2, ![45, 1]⟩
abbrev S45 : Shape := ⟨1, ![45]⟩
abbrev S_ : Shape := ⟨0, ![]⟩
abbrev S400000x45 : Shape := ⟨2, ![400000, 45]⟩
abbrev S630x1 : Shape := ⟨2, ![630, 1]⟩
abbrev S630 : Shape := ⟨1, ![630]⟩
abbrev S400000x630 : Shape := ⟨2, ![400000, 630]⟩
abbrev S400000 : Shape := ⟨1, ![400000]⟩
abbrev S400000x1 : Shape := ⟨2, ![400000, 1]⟩
abbrev S400000x2 : Shape := ⟨2, ![400000, 2]⟩
abbrev S400000x2x1 : Shape := ⟨3, ![400000, 2, 1]⟩
abbrev S400000x2x2 : Shape := ⟨3, ![400000, 2, 2]⟩
abbrev S400000x4 : Shape := ⟨2, ![400000, 4]⟩
abbrev S1 : Shape := ⟨1, ![1]⟩
abbrev S1x1x1 : Shape := ⟨3, ![1, 1, 1]⟩
abbrev S400000x1x1 : Shape := ⟨3, ![400000, 1, 1]⟩
abbrev S400000x7 : Shape := ⟨2, ![400000, 7]⟩

abbrev nBuf : Space → Nat
  | .hbm => 193
  | .vmem => 0
  | .smem => 0
  | _ => 0

abbrev hbmTy0_0 (i : Nat) : BufTy := match i % 128 with
  | 0 => ⟨S400000x10x4, .f32⟩
  | 1 => ⟨S45x2, .i32⟩
  | 2 => ⟨S630x2, .i32⟩
  | 3 => ⟨S400000x10x1, .f32⟩
  | 4 => ⟨S400000x10, .f32⟩
  | 5 => ⟨S400000x10x1, .f32⟩
  | 6 => ⟨S400000x10, .f32⟩
  | 7 => ⟨S400000x10x1, .f32⟩
  | 8 => ⟨S400000x10, .f32⟩
  | 9 => ⟨S400000x10, .f32⟩
  | 10 => ⟨S400000x10, .f32⟩
  | 11 => ⟨S400000x10, .f32⟩
  | 12 => ⟨S400000x10, .f32⟩
  | 13 => ⟨S400000x10, .f32⟩
  | 14 => ⟨S400000x10, .f32⟩
  | 15 => ⟨S400000x10, .f32⟩
  | 16 => ⟨S45x1, .i32⟩
  | 17 => ⟨S45, .i32⟩
  | 18 => ⟨S45x1, .i32⟩
  | 19 => ⟨S45, .i32⟩
  | 20 => ⟨S_, .i32⟩
  | 21 => ⟨S45, .i32⟩
  | 22 => ⟨S45, .i1⟩
  | 23 => ⟨S_, .i32⟩
  | 24 => ⟨S45, .i32⟩
  | 25 => ⟨S45, .i32⟩
  | 26 => ⟨S45, .i32⟩
  | 27 => ⟨S45x1, .i32⟩
  | 28 => ⟨S400000x45, .f32⟩
  | 29 => ⟨S_, .i32⟩
  | 30 => ⟨S45, .i32⟩
  | 31 => ⟨S45, .i1⟩
  | 32 => ⟨S_, .i32⟩
  | 33 => ⟨S45, .i32⟩
  | 34 => ⟨S45, .i32⟩
  | 35 => ⟨S45, .i32⟩
  | 36 => ⟨S45x1, .i32⟩
  | 37 => ⟨S400000x45, .f32⟩
  | 38 => ⟨S400000x45, .f32⟩
  | 39 => ⟨S_, .i32⟩
  | 40 => ⟨S45, .i32⟩
  | 41 => ⟨S45, .i1⟩
  | 42 => ⟨S_, .i32⟩
  | 43 => ⟨S45, .i32⟩
  | 44 => ⟨S45, .i32⟩
  | 45 => ⟨S45, .i32⟩
  | 46 => ⟨S45x1, .i32⟩
  | 47 => ⟨S400000x45, .f32⟩
  | 48 => ⟨S_, .i32⟩
  | 49 => ⟨S45, .i32⟩
  | 50 => ⟨S45, .i1⟩
  | 51 => ⟨S_, .i32⟩
  | 52 => ⟨S45, .i32⟩
  | 53 => ⟨S45, .i32⟩
  | 54 => ⟨S45, .i32⟩
  | 55 => ⟨S45x1, .i32⟩
  | 56 => ⟨S400000x45, .f32⟩
  | 57 => ⟨S400000x45, .f32⟩
  | 58 => ⟨S_, .f32⟩
  | 59 => ⟨S400000x45, .f32⟩
  | 60 => ⟨S400000x45, .f32⟩
  | 61 => ⟨S_, .f32⟩
  | 62 => ⟨S_, .f32⟩
  | 63 => ⟨S400000x45, .f32⟩
  | 64 => ⟨S400000x45, .f32⟩
  | 65 => ⟨S_, .f32⟩
  | 66 => ⟨S400000x45, .f32⟩
  | 67 => ⟨S400000x45, .i1⟩
  | 68 => ⟨S_, .f32⟩
  | 69 => ⟨S400000x45, .f32⟩
  | 70 => ⟨S400000x45, .i1⟩
  | 71 => ⟨S_, .f32⟩
  | 72 => ⟨S_, .i1⟩
  | 73 => ⟨S400000x45, .i1⟩
  | 74 => ⟨S400000x45, .i1⟩
  | 75 => ⟨S400000x45, .i1⟩
  | 76 => ⟨S400000x45, .f32⟩
  | 77 => ⟨S400000x45, .f32⟩
  | 78 => ⟨S400000x45, .f32⟩
  | 79 => ⟨S_, .f32⟩
  | 80 => ⟨S400000x45, .f32⟩
  | 81 => ⟨S400000x45, .f32⟩
  | 82 => ⟨S400000x45, .f32⟩
  | 83 => ⟨S400000x45, .f32⟩
  | 84 => ⟨S400000x45, .f32⟩
  | 85 => ⟨S400000x45, .f32⟩
  | 86 => ⟨S630x1, .i32⟩
  | 87 => ⟨S630, .i32⟩
  | 88 => ⟨S_, .i32⟩
  | 89 => ⟨S630, .i32⟩
  | 90 => ⟨S630, .i1⟩
  | 91 => ⟨S_, .i32⟩
  | 92 => ⟨S630, .i32⟩
  | 93 => ⟨S630, .i32⟩
  | 94 => ⟨S630, .i32⟩
  | 95 => ⟨S630x1, .i32⟩
  | 96 => ⟨S400000x630, .f32⟩
  | 97 => ⟨S_, .f32⟩
  | 98 => ⟨S400000x630, .f32⟩
  | 99 => ⟨S400000x630, .f32⟩
  | 100 => ⟨S400000x630, .f32⟩
  | 101 => ⟨S630x1, .i32⟩
  | 102 => ⟨S630, .i32⟩
  | 103 => ⟨S_, .i32⟩
  | 104 => ⟨S630, .i32⟩
  | 105 => ⟨S630, .i1⟩
  | 106 => ⟨S_, .i32⟩
  | 107 => ⟨S630, .i32⟩
  | 108 => ⟨S630, .i32⟩
  | 109 => ⟨S630, .i32⟩
  | 110 => ⟨S630x1, .i32⟩
  | 111 => ⟨S400000x630, .f32⟩
  | 112 => ⟨S_, .f32⟩
  | 113 => ⟨S400000x630, .f32⟩
  | 114 => ⟨S400000x630, .f32⟩
  | 115 => ⟨S400000x630, .f32⟩
  | 116 => ⟨S400000x630, .f32⟩
  | 117 => ⟨S400000x630, .i1⟩
  | 118 => ⟨S_, .f32⟩
  | 119 => ⟨S_, .f32⟩
  | 120 => ⟨S400000x630, .f32⟩
  | 121 => ⟨S400000x630, .f32⟩
  | 122 => ⟨S400000x630, .i32⟩
  | 123 => ⟨S_, .f32⟩
  | 124 => ⟨S_, .i32⟩
  | 125 => ⟨S400000, .f32⟩
  | 126 => ⟨S400000, .i32⟩
  | 127 => ⟨S_, .i32⟩
  | _ => ⟨S400000x10x4, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x2, .i32⟩
  | 8 => ⟨S_, .i32⟩
  | 9 => ⟨S400000x2, .i32⟩
  | 10 => ⟨S400000x2, .i1⟩
  | 11 => ⟨S_, .i32⟩
  | 12 => ⟨S400000x2, .i32⟩
  | 13 => ⟨S400000x2, .i32⟩
  | 14 => ⟨S400000x2, .i32⟩
  | 15 => ⟨S400000x2x1, .i32⟩
  | 16 => ⟨S400000x2x2, .i32⟩
  | 17 => ⟨S400000x4, .i32⟩
  | 18 => ⟨S400000x4, .f32⟩
  | 19 => ⟨S_, .i32⟩
  | 20 => ⟨S400000x2, .i32⟩
  | 21 => ⟨S400000x2, .i1⟩
  | 22 => ⟨S_, .i32⟩
  | 23 => ⟨S400000x2, .i32⟩
  | 24 => ⟨S400000x2, .i32⟩
  | 25 => ⟨S400000x2, .i32⟩
  | 26 => ⟨S400000x2x1, .i32⟩
  | 27 => ⟨S1, .i32⟩
  | 28 => ⟨S_, .i32⟩
  | 29 => ⟨S400000x2x1, .i32⟩
  | 30 => ⟨S400000x2x1, .i1⟩
  | 31 => ⟨S1x1x1, .i32⟩
  | 32 => ⟨S400000x2x1, .i32⟩
  | 33 => ⟨S400000x2x1, .i1⟩
  | 34 => ⟨S400000x2x1, .i1⟩
  | 35 => ⟨S_, .i1⟩
  | 36 => ⟨S400000x2, .i1⟩
  | 37 => ⟨S400000x2, .f32⟩
  | 38 => ⟨S_, .f32⟩
  | 39 => ⟨S400000x2, .f32⟩
  | 40 => ⟨S400000x2, .f32⟩
  | 41 => ⟨S400000x1, .i32⟩
  | 42 => ⟨S_, .i32⟩
  | 43 => ⟨S400000x1, .i32⟩
  | 44 => ⟨S400000x1, .i1⟩
  | 45 => ⟨S_, .i32⟩
  | 46 => ⟨S400000x1, .i32⟩
  | 47 => ⟨S400000x1, .i32⟩
  | 48 => ⟨S400000x1, .i32⟩
  | 49 => ⟨S400000x1x1, .i32⟩
  | 50 => ⟨S1, .i32⟩
  | 51 => ⟨S_, .i32⟩
  | 52 => ⟨S400000x1x1, .i32⟩
  | 53 => ⟨S400000x1x1, .i1⟩
  | 54 => ⟨S1x1x1, .i32⟩
  | 55 => ⟨S400000x1x1, .i32⟩
  | 56 => ⟨S400000x1x1, .i1⟩
  | 57 => ⟨S400000x1x1, .i1⟩
  | 58 => ⟨S_, .i1⟩
  | 59 => ⟨S400000x1, .i1⟩
  | 60 => ⟨S400000x1, .f32⟩
  | 61 => ⟨S_, .f32⟩
  | 62 => ⟨S400000x1, .f32⟩
  | 63 => ⟨S400000x1, .f32⟩
  | 64 => ⟨S400000x7, .f32⟩
  | _ => ⟨S400000x10x4, .f32⟩

abbrev hbmTy (i : Nat) : BufTy := match i / 128 with
  | 0 => hbmTy0_0 i
  | 1 => hbmTy0_1 i
  | _ => ⟨S400000x10x4, .f32⟩

abbrev bufTy : (tb : Table) → Fin (tcTables nBuf tb) → BufTy
  | .hbm, ⟨i, _⟩ => hbmTy i
  | _, _ => ⟨S400000x10x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_3 : Ref sig .tc := ⟨.hbm, 29, rfl⟩
abbrev main_v24 : Ref sig .tc := ⟨.hbm, 30, rfl⟩
abbrev main_v25 : Ref sig .tc := ⟨.hbm, 31, rfl⟩
abbrev main_c_4 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_5 : Ref sig .tc := ⟨.hbm, 39, rfl⟩
abbrev main_v32 : Ref sig .tc := ⟨.hbm, 40, rfl⟩
abbrev main_v33 : Ref sig .tc := ⟨.hbm, 41, rfl⟩
abbrev main_c_6 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_7 : Ref sig .tc := ⟨.hbm, 48, rfl⟩
abbrev main_v39 : Ref sig .tc := ⟨.hbm, 49, rfl⟩
abbrev main_v40 : Ref sig .tc := ⟨.hbm, 50, rfl⟩
abbrev main_c_8 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_cst : Ref sig .tc := ⟨.hbm, 65, rfl⟩
abbrev main_call0_v3 : Ref sig .tc := ⟨.hbm, 66, rfl⟩
abbrev main_call0_v4 : Ref sig .tc := ⟨.hbm, 67, rfl⟩
abbrev main_call0_cst_0 : Ref sig .tc := ⟨.hbm, 68, rfl⟩
abbrev main_call0_v5 : Ref sig .tc := ⟨.hbm, 69, rfl⟩
abbrev main_call0_v6 : Ref sig .tc := ⟨.hbm, 70, rfl⟩
abbrev main_call0_cst_1 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_17 : Ref sig .tc := ⟨.hbm, 118, rfl⟩
abbrev main_call1_v0 : Ref sig .tc := ⟨.hbm, 119, rfl⟩
abbrev main_call1_v1 : Ref sig .tc := ⟨.hbm, 120, rfl⟩
abbrev main_v82 : Ref sig .tc := ⟨.hbm, 121, rfl⟩
abbrev main_call2_v0 : Ref sig .tc := ⟨.hbm, 122, rfl⟩
abbrev main_call2_cst : Ref sig .tc := ⟨.hbm, 123, rfl⟩
abbrev main_call2_c : Ref sig .tc := ⟨.hbm, 124, rfl⟩
abbrev main_call2_v1_0 : Ref sig .tc := ⟨.hbm, 125, rfl⟩
abbrev main_v83 : Ref sig .tc := ⟨.hbm, 126, rfl⟩
abbrev main_c_18 : Ref sig .tc := ⟨.hbm, 127, rfl⟩
abbrev main_v84 : Ref sig .tc := ⟨.hbm, 128, rfl⟩
abbrev main_v85 : Ref sig .tc := ⟨.hbm, 129, rfl⟩
abbrev main_c_19 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_20 : Ref sig .tc := ⟨.hbm, 136, rfl⟩
abbrev main_v91 : Ref sig .tc := ⟨.hbm, 137, rfl⟩
abbrev main_v92 : Ref sig .tc := ⟨.hbm, 138, rfl⟩
abbrev main_c_21 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call3_c : Ref sig .tc := ⟨.hbm, 147, rfl⟩
abbrev main_call3_v0 : Ref sig .tc := ⟨.hbm, 148, rfl⟩
abbrev main_call3_v1 : Ref sig .tc := ⟨.hbm, 149, rfl⟩
abbrev main_call3_c_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_c_1 : Ref sig .tc := ⟨.hbm, 155, rfl⟩
abbrev main_call3_c_2 : Ref sig .tc := ⟨.hbm, 156, rfl⟩
abbrev main_call3_v6 : Ref sig .tc := ⟨.hbm, 157, rfl⟩
abbrev main_call3_v7 : Ref sig .tc := ⟨.hbm, 158, rfl⟩
abbrev main_call3_v8 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_c_3 : Ref sig .tc := ⟨.hbm, 163, rfl⟩
abbrev main_call3_v12 : Ref sig .tc := ⟨.hbm, 164, rfl⟩
abbrev main_call3_v13 : Ref sig .tc := ⟨.hbm, 165, rfl⟩
abbrev main_call3_cst : Ref sig .tc := ⟨.hbm, 166, rfl⟩
abbrev main_call3_v14 : Ref sig .tc := ⟨.hbm, 167, rfl⟩
abbrev main_v100 : Ref sig .tc := ⟨.hbm, 168, rfl⟩
abbrev main_v101 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_cst : Ref sig .tc := ⟨.hbm, 189, rfl⟩
abbrev main_call4_v14 : Ref sig .tc := ⟨.hbm, 190, rfl⟩
abbrev main_v102 : Ref sig .tc := ⟨.hbm, 191, rfl⟩
abbrev main_v103 : Ref sig .tc := ⟨.hbm, 192, rfl⟩

abbrev nD : Nat := 1
abbrev τ : Topo := Topo.v7x

variable {F : FTy → Type} [FloatOps F]
-- ==== Proof.Chunk.lean ====
/-
  What the kernel computes for one chunk of 256 rows, stage by stage, as functions of the chunk and of the six constant
  tables: the momentum components (column selection by a matrix product), the angles, the pair distances, the five tiles
  of combinations with their per-lane running minimum, the row's best combination, and the four stored columns groups.
-/
module

public import proofs.«01_k».proof.Proof.Gen.KernelIdeal

@[expose] public section

set_option maxRecDepth 16384

noncomputable section

namespace Cert.KernelIdeal.Chunk

open Cert.KernelIdeal Cert.KernelIdeal.Gen Idealize.ShloMosaic

/-! ## Momentum components and angles -/

/-- The selected columns of the chunk, one per row: rows 0–15 the x components, 16–31 the y, 32–47 the z. -/
def mom (w : FVec Ideal S40x48 .f32) (x : FVec Ideal S256x40 .f32) : FVec Ideal S48x256 .f32 :=
  transpose S48x256 [1, 0]
    (matmul dot_S256x40_S40x48_S256x48_1_0_0_1_n_n (some .fp32) (shapeCast S256x40 x shapeCasts_S256x40_S256x40) w
      (constant S256x48 .f32 0x00000000#32)) transposes_S256x48_p1_0_S48x256

def px (p : FVec Ideal S48x256 .f32) : FVec Ideal S16x256 .f32 := extractStridedSlice S16x256 ![0, 0] p slices_S48x256_o0_0_S16x256
def py (p : FVec Ideal S48x256 .f32) : FVec Ideal S16x256 .f32 := extractStridedSlice S16x256 ![16, 0] p slices_S48x256_o16_0_S16x256
def pz (p : FVec Ideal S48x256 .f32) : FVec Ideal S16x256 .f32 := extractStridedSlice S16x256 ![32, 0] p slices_S48x256_o32_0_S16x256

/-- The longitudinal over the transverse momentum. -/
def slope (p : FVec Ideal S48x256 .f32) : FVec Ideal S16x256 .f32 :=
  divf (pz p) (sqrt (addf (mulf (px p) (px p)) (mulf (py p) (py p))))

/-- A scalar over the jets of the chunk. -/
def jets (v : Ideal .f32) : FVec Ideal S16x256 .f32 := broadcast S16x256 v

/-- The inverse hyperbolic sine of an absolute value `u`, by the logarithm. -/
def logForm (u : FVec Ideal S16x256 .f32) : FVec Ideal S16x256 .f32 :=
  select (cmpf .ogt u (jets (Named.named κ "guard" 0x5F0AC723#32)))
    (addf (log u) (jets (Scalar.ofBits .f32 0x3F317218#32)))
    (log1p (addf u (divf (mulf u u)
      (addf (jets (Scalar.ofBits .f32 0x3F800000#32)) (sqrt (addf (mulf u u) (jets (Scalar.ofBits .f32 0x3F800000#32))))))))

/-- The sign of `t`; zero at zero. -/
def sgn (t : FVec Ideal S16x256 .f32) : FVec Ideal S16x256 .f32 :=
  select (cmpf .ogt (absf t) (jets (Scalar.ofBits .f32 0x00000000#32)))
    (select (cmpf .olt t (constant S16x256 .f32 0x00000000#32)) (constant S16x256 .f32 0xBF800000#32) (constant S16x256 .f32 0x3F800000#32)) t

/-- The pseudorapidity of the ten jets; zero in the six rows past them. -/
def eta (p : FVec Ideal S48x256 .f32) : FVec Ideal S16x256 .f32 :=
  select (cmpi .slt (iota .tc S16x256 32 [0] iota_S16x256_d0_w32) (broadcast S16x256 10#32))
    (mulf (sgn (slope p)) (logForm (absf (slope p)))) (jets (Scalar.ofBits .f32 0x00000000#32))

/-- The azimuth. -/
def phi (p : FVec Ideal S48x256 .f32) : FVec Ideal S16x256 .f32 := atan2 (py p) (px p)

/-! ## Pair distances -/

/-- The pair differences, by the matrix of ones and minus ones. -/
def diffs (d : FVec Ideal S48x16 .f32) (e : FVec Ideal S16x256 .f32) : FVec Ideal S48x256 .f32 :=
  matmul dot_S48x16_S16x256_S48x256_1_0_0_1_n_n (some .fp32) d e (constant S48x256 .f32 0x00000000#32)

/-- A scalar over the pairs of the chunk. -/
def pairs (v : Ideal .f32) : FVec Ideal S48x256 .f32 := broadcast S48x256 v

/-- The remainder by 2π before its sign is settled. -/
def rem (q : FVec Ideal S48x256 .f32) : FVec Ideal S48x256 .f32 :=
  remf (addf q (pairs (Scalar.ofBits .f32 0x40490FDB#32))) (pairs (Scalar.ofBits .f32 0x40C90FDB#32))

/-- The azimuth difference brought into [−π, π). -/
def fold (q : FVec Ideal S48x256 .f32) : FVec Ideal S48x256 .f32 :=
  subf (select
      (andi (xori (cmpf .olt (rem q) (pairs (Scalar.ofBits .f32 0x00000000#32)))
          (broadcastTo S48x256 (broadcast S48x256 (Scalar.cmpf .olt (Scalar.ofBits .f32 0x40C90FDB#32 : Ideal .f32) (Scalar.ofBits .f32 0x00000000#32)))
            broadcasts_S48x256_S48x256))
        (cmpf .one (rem q) (pairs (Scalar.ofBits .f32 0x00000000#32))))
      (addf (rem q) (pairs (Scalar.ofBits .f32 0x40C90FDB#32))) (rem q))
    (pairs (Scalar.ofBits .f32 0x40490FDB#32))

/-- The pair distances, -/
def dist (d : FVec Ideal S48x16 .f32) (p : FVec Ideal S48x256 .f32) : FVec Ideal S48x256 .f32 :=
  sqrt (addf (mulf (diffs d (eta p)) (diffs d (eta p))) (mulf (fold (diffs d (phi p))) (fold (diffs d (phi p)))))

/-- and how far each is from 0.8, cut at the cap. -/
def dev (r : FVec Ideal S48x256 .f32) : FVec Ideal S48x256 .f32 :=
  minimumf (select (cmpf .one (absf (subf r (pairs (Scalar.ofBits .f32 0x3F4CCCCD#32)))) (absf (subf r (pairs (Scalar.ofBits .f32 0x3F4CCCCD#32)))))
      (pairs (Named.named κ "cap" 0x7F61B1E6#32)) (absf (subf r (pairs (Scalar.ofBits .f32 0x3F4CCCCD#32)))))
    (pairs (Named.named κ "cap" 0x7F61B1E6#32))

/-- Pairs along the lanes, filled up with zeros to 128. -/
def lanes (r : FVec Ideal S48x256 .f32) : FVec Ideal S256x128 .f32 :=
  concatenate S256x128 1
    [⟨S256x48, transpose S256x48 [1, 0] r transposes_S48x256_p1_0_S256x48⟩,
      ⟨S256x80, broadcast S256x80 (Scalar.ofBits .f32 0x00000000#32)⟩] concatenates_S256x48_S256x80_S256x128_d1

/-! ## Combinations -/

/-- Tile `o` of a table row, over the chunk's rows. -/
def row {α : Type} (o : Nat) (h : S1x640.Slices ![0, o] S1x128) (v : S1x640.Idx → α) : S256x128.Idx → α :=
  broadcastTo S256x128 (shapeCast S1x128 (extractStridedSlice S1x128 ![0, o] v h) shapeCasts_S1x128_S1x128) broadcasts_S1x128_S256x128

/-- The lanes `k` of every row of `a` (a negative lane counted from the end). -/
def pick (a : FVec Ideal S256x128 .f32) (k : IVec S256x128 32) : FVec Ideal S256x128 .f32 :=
  dynamicGather 1 a (shapeCast S256x128 (shapeCast S256x128x1
    (select (cmpi .slt k (broadcast S256x128 0#32)) (addi k (broadcast S256x128 128#32)) k)
    shapeCasts_S256x128_S256x128x1) shapeCasts_S256x128x1_S256x128)

/-- The measure of the combinations of tile `o`. -/
def tile (o : Nat) (h : S1x640.Slices ![0, o] S1x128) (c0 c1 : IVec S1x640 32) (a : FVec Ideal S256x128 .f32) : FVec Ideal S256x128 .f32 :=
  addf (pick a (row o h c0)) (pick a (row o h c1))

/-- One tile's step of the running minimum: where the tile is smaller, its number is kept. -/
def step (o : Nat) (h : S1x640.Slices ![0, o] S1x128) (c0 c1 : IVec S1x640 32) (l : FVec Ideal S1x640 .f32) (a : FVec Ideal S256x128 .f32)
    (s : FVec Ideal S256x128 .f32 × FVec Ideal S256x128 .f32) : FVec Ideal S256x128 .f32 × FVec Ideal S256x128 .f32 :=
  (minimumf s.1 (tile o h c0 c1 a), select (cmpf .olt (tile o h c0 c1 a) s.1) (row o h l) s.2)

/-- The running minimum before the first tile. -/
def start : FVec Ideal S256x128 .f32 × FVec Ideal S256x128 .f32 :=
  (broadcast S256x128 (Scalar.ofBits .f32 0x7F800000#32), broadcast S256x128 (Scalar.ofBits .f32 0x00000000#32))

/-- The per-lane minimum over the five tiles, and its number. -/
def best (c0 c1 : IVec S1x640 32) (l : FVec Ideal S1x640 .f32) (a : FVec Ideal S256x128 .f32) : FVec Ideal S256x128 .f32 × FVec Ideal S256x128 .f32 :=
  step 512 slices_S1x640_o0_512_S1x128 c0 c1 l a (step 384 slices_S1x640_o0_384_S1x128 c0 c1 l a (step 256 slices_S1x640_o0_256_S1x128 c0 c1 l a
    (step 128 slices_S1x640_o0_128_S1x128 c0 c1 l a (step 0 slices_S1x640_o0_0_S1x128 c0 c1 l a start))))

/-- The minimum over the lanes of every row. -/
def rowMin (v : FVec Ideal S256x128 .f32) : FVec Ideal S256x1 .f32 :=
  shapeCast S256x1 (multiReduction .minimumf [1] S256 v 0x7F800000#32 reduces_S256x128_S256 (.inl rfl) rfl) shapeCasts_S256_S256x1

/-- A column over the lanes. -/
def along {α : Type} (v : S256x1.Idx → α) : S256x128.Idx → α := broadcastTo S256x128 v broadcasts_S256x1_S256x128

/-- The number of the row's best combination. -/
def number (s : FVec Ideal S256x128 .f32 × FVec Ideal S256x128 .f32) : FVec Ideal S256x1 .f32 :=
  rowMin (select (cmpf .oeq s.1 (along (rowMin s.1))) s.2 (broadcast S256x128 (Scalar.ofBits .f32 0x4E6E6B28#32)))

/-- What one tile contributes to the looked-up row of the payload table: the row of the tile whose number is `n`. -/
def lookTile (o : Nat) (h : S1x640.Slices ![0, o] S1x128) (h' : S640x8.Slices ![o, 0] S128x8) (l : FVec Ideal S1x640 .f32)
    (w : FVec Ideal S640x8 .f32) (n : FVec Ideal S256x1 .f32) : FVec Ideal S256x8 .f32 :=
  matmul dot_S256x128_S128x8_S256x8_1_0_0_1_n_n none (sitofp .f32 (extui 32 (cmpf .oeq (row o h l) (along n)) natLt_1_32))
    (extractStridedSlice S128x8 ![o, 0] w h') (constant S256x8 .f32 0x00000000#32)

/-- The row of the payload table with number `n`. -/
def look (l : FVec Ideal S1x640 .f32) (w : FVec Ideal S640x8 .f32) (n : FVec Ideal S256x1 .f32) : FVec Ideal S256x8 .f32 :=
  addf (addf (addf (addf (lookTile 0 slices_S1x640_o0_0_S1x128 slices_S640x8_o0_0_S128x8 l w n)
    (lookTile 128 slices_S1x640_o0_128_S1x128 slices_S640x8_o128_0_S128x8 l w n))
    (lookTile 256 slices_S1x640_o0_256_S1x128 slices_S640x8_o256_0_S128x8 l w n))
    (lookTile 384 slices_S1x640_o0_384_S1x128 slices_S640x8_o384_0_S128x8 l w n))
    (lookTile 512 slices_S1x640_o0_512_S1x128 slices_S640x8_o512_0_S128x8 l w n)

/-- The distance of the pair a column numbers. -/
def chosen (r : FVec Ideal S256x128 .f32) (k : FVec Ideal S256x1 .f32) : FVec Ideal S256x1 .f32 :=
  extractStridedSlice S256x1 ![0, 0] (pick r (along (shapeCast S256x1 (fptosi 32 k) shapeCasts_S256x1_S256x1))) slices_S256x128_o0_0_S256x1

/-! ## The four stored column groups, as functions of the tables and the chunk -/

section
variable (w : FVec Ideal S40x48 .f32) (d : FVec Ideal S48x16 .f32) (c0 c1 : IVec S1x640 32) (l : FVec Ideal S1x640 .f32)
  (pay : FVec Ideal S640x8 .f32) (x : FVec Ideal S256x40 .f32)

/-- The running minimum over all combinations of the chunk. -/
def found : FVec Ideal S256x128 .f32 × FVec Ideal S256x128 .f32 := best c0 c1 l (lanes (dev (dist d (mom w x))))

/-- The looked-up payload rows. -/
def payload : FVec Ideal S256x8 .f32 := look l pay (number (found w d c0 c1 l x))

def labels : FVec Ideal S256x4 .f32 := extractStridedSlice S256x4 ![0, 0] (payload w d c0 c1 l pay x) slices_S256x8_o0_0_S256x4
def first : FVec Ideal S256x1 .f32 :=
  chosen (lanes (dist d (mom w x))) (extractStridedSlice S256x1 ![0, 4] (payload w d c0 c1 l pay x) slices_S256x8_o0_4_S256x1)
def second : FVec Ideal S256x1 .f32 :=
  chosen (lanes (dist d (mom w x))) (extractStridedSlice S256x1 ![0, 5] (payload w d c0 c1 l pay x) slices_S256x8_o0_5_S256x1)
def least : FVec Ideal S256x1 .f32 := rowMin (found w d c0 c1 l x).1
end

end Cert.KernelIdeal.Chunk

end
-- ==== Proof.Blocks.lean ====
/-
  What one point of the kernel's grid leaves in its block of the result: the block's rows are four chunks of 256, and at
  row `256 h + r` the seven columns are the chunk `h`'s labels, distances and measure.
-/
module

public import proofs.«01_k».proof.Proof.Gen.KernelIdeal.Value
public import proofs.«01_k».proof.Proof.Chunk
public import Idealize.ShloMosaic.Lib.Pipeline.ValueKit

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

section
variable (w : FVec Ideal S40x48 .f32) (d : FVec Ideal S48x16 .f32) (c0 c1 : IVec S1x640 32)
  (l : FVec Ideal S1x640 .f32) (pay : FVec Ideal S640x8 .f32)

/-- The four stores of a chunk `x`, whose rows are the block's from row `o`; last first. -/
def stores (o : Nat) (x : FVec Ideal S256x40 .f32)
    (h0 : ∀ a, (![o, 0] : Fin 2 → Nat) a + S256x4.size a ≤ S1024x7.size a) (h4 : ∀ a, (![o, 4] : Fin 2 → Nat) a + S256x1.size a ≤ S1024x7.size a)
    (h5 : ∀ a, (![o, 5] : Fin 2 → Nat) a + S256x1.size a ≤ S1024x7.size a) (h6 : ∀ a, (![o, 6] : Fin 2 → Nat) a + S256x1.size a ≤ S1024x7.size a) :
    List (View.Piece (Elt Ideal) S1024x7 .f32) :=
  [⟨Rect.unit ![o, 6] S256x1.size h6, Chunk.least w d c0 c1 l x⟩,
   ⟨Rect.unit ![o, 5] S256x1.size h5, Chunk.second w d c0 c1 l pay x⟩,
   ⟨Rect.unit ![o, 4] S256x1.size h4, Chunk.first w d c0 c1 l pay x⟩,
   ⟨Rect.unit ![o, 0] S256x4.size h0, Chunk.labels w d c0 c1 l pay x⟩]

/-- The sixteen stores of a block, from its four chunks. -/
def all (x0 x1 x2 x3 : FVec Ideal S256x40 .f32) : List (View.Piece (Elt Ideal) S1024x7 .f32) :=
  stores w d c0 c1 l pay 768 x3 inb_S1024x7_S256x4_768_0 inb_S1024x7_S256x1_768_4 inb_S1024x7_S256x1_768_5 inb_S1024x7_S256x1_768_6
  ++ (stores w d c0 c1 l pay 512 x2 inb_S1024x7_S256x4_512_0 inb_S1024x7_S256x1_512_4 inb_S1024x7_S256x1_512_5 inb_S1024x7_S256x1_512_6
  ++ (stores w d c0 c1 l pay 256 x1 inb_S1024x7_S256x4_256_0 inb_S1024x7_S256x1_256_4 inb_S1024x7_S256x1_256_5 inb_S1024x7_S256x1_256_6
  ++ stores w d c0 c1 l pay 0 x0 inb_S1024x7_S256x4_0_0 inb_S1024x7_S256x1_0_4 inb_S1024x7_S256x1_0_5 inb_S1024x7_S256x1_0_6))
end

/-- The body's stores are those sixteen, on what its loads read. -/
theorem pieces (c : Dev nD) (i : grid0.Coords) (arg1 : Memref sig .tc .vmem S1024x40 .f32) (harg1 : arg1.IsWhole) (arg2 : Memref sig .tc .vmem S40x48 .f32) (harg2 : arg2.IsWhole) (arg3 : Memref sig .tc .vmem S48x16 .f32) (harg3 : arg3.IsWhole) (arg4 : Memref sig .tc .vmem S1x640 .i32) (harg4 : arg4.IsWhole) (arg5 : Memref sig .tc .vmem S1x640 .i32) (harg5 : arg5.IsWhole) (arg6 : Memref sig .tc .vmem S1x640 .f32) (harg6 : arg6.IsWhole) (arg7 : Memref sig .tc .vmem S640x8 .f32) (harg7 : arg7.IsWhole) (arg8 : Memref sig .tc .vmem S1024x7 .f32) (harg8 : arg8.IsWhole)
    (x0 : Vec Ideal S1024x40 .f32) (x1 : Vec Ideal S40x48 .f32) (x2 : Vec Ideal S48x16 .f32) (x3 : Vec Ideal S1x640 .i32) (x4 : Vec Ideal S1x640 .i32) (x5 : Vec Ideal S1x640 .f32) (x6 : Vec Ideal S640x8 .f32) :
    (kernelRun0_A (F := Ideal) c i arg1 harg1 arg2 harg2 arg3 harg3 arg4 harg4 arg5 harg5 arg6 harg6 arg7 harg7 arg8 harg8 x0 x1 x2 x3 x4 x5 x6).1
      = all (View.readAt (Elt Ideal) arg2.view (Rect.unit (s := S40x48) ![0, 0] S40x48.size inb_S40x48_S40x48_0_0).toLoadRect (harg2.unread x1)) (View.readAt (Elt Ideal) arg3.view (Rect.unit (s := S48x16) ![0, 0] S48x16.size inb_S48x16_S48x16_0_0).toLoadRect (harg3.unread x2))
          (View.readAt (Elt Ideal) arg4.view (Rect.unit (s := S1x640) ![0, 0] S1x640.size inb_S1x640_S1x640_0_0).toLoadRect (harg4.unread x3)) (View.readAt (Elt Ideal) arg5.view (Rect.unit (s := S1x640) ![0, 0] S1x640.size inb_S1x640_S1x640_0_0).toLoadRect (harg5.unread x4))
          (View.readAt (Elt Ideal) arg6.view (Rect.unit (s := S1x640) ![0, 0] S1x640.size inb_S1x640_S1x640_0_0).toLoadRect (harg6.unread x5)) (View.readAt (Elt Ideal) arg7.view (Rect.unit (s := S640x8) ![0, 0] S640x8.size inb_S640x8_S640x8_0_0).toLoadRect (harg7.unread x6))
          (View.readAt (Elt Ideal) arg1.view (Rect.unit (s := S1024x40) ![0, 0] S256x40.size inb_S1024x40_S256x40_0_0).toLoadRect (harg1.unread x0))
          (View.readAt (Elt Ideal) arg1.view (Rect.unit (s := S1024x40) ![256, 0] S256x40.size inb_S1024x40_S256x40_256_0).toLoadRect (harg1.unread x0))
          (View.readAt (Elt Ideal) arg1.view (Rect.unit (s := S1024x40) ![512, 0] S256x40.size inb_S1024x40_S256x40_512_0).toLoadRect (harg1.unread x0))
          (View.readAt (Elt Ideal) arg1.view (Rect.unit (s := S1024x40) ![768, 0] S256x40.size inb_S1024x40_S256x40_768_0).toLoadRect (harg1.unread x0)) := by
  sl_kernel_rfl

end Cert.KernelIdeal.Blocks

end
-- ==== Proof.Row.lean ====
/-
  One row of the problem, as mathematics: ten jets' momentum components in, pair distances, the measure of a combination
  of two pairs, and the combination with the least measure (the first of them). Nothing here knows a program; the kernel
  and the reference are each shown to compute these functions.
-/
module

public import Idealize.ShloMosaic.Lib.Pointwise
public import Idealize.ShloMosaic.Lib.IdealHost

@[expose] public section

noncomputable section

namespace Cert.Row

open Idealize.ShloMosaic

/-! ## Constants -/

/-- The single-precision π, 2π and 0.8. -/
def pi : EReal := Ideal.ofBits .f32 0x40490FDB#32
def twoPi : EReal := Ideal.ofBits .f32 0x40C90FDB#32
def target : EReal := Ideal.ofBits .f32 0x3F4CCCCD#32

theorem twoPi_pos : ¬ twoPi < 0 := by
  have : twoPi = ((13176795 * 2 ^ (-21 : Int) : ℝ) : EReal) := by
    simp [twoPi, Ideal.ofBits, Ideal.ieee, -EReal.coe_mul]
  rw [this, not_lt, ← EReal.coe_zero, EReal.coe_le_coe_iff]
  positivity

theorem top_word : Ideal.ofBits .f32 0x7F800000#32 = ⊤ := by simp [Ideal.ofBits, Ideal.ieee]

theorem minus_one_word : Ideal.ofBits .f32 0xBF800000#32 = -1 := by
  simp [Ideal.ofBits, Ideal.ieee, -EReal.coe_mul]; norm_num

/-! ## The functions of a row -/

/-- A row: of every jet the four components (its energy first, then the momentum along x, y, z). -/
abbrev Jets := Fin 10 → Fin 4 → EReal

/-- The pseudorapidity of a jet, -/
def eta (p : Jets) (j : Fin 10) : EReal := Ideal.asinh (Ideal.div (p j 3) (Ideal.sqrt (p j 1 * p j 1 + p j 2 * p j 2)))
/-- and its azimuth. -/
def phi (p : Jets) (j : Fin 10) : EReal := Ideal.atan2 (p j 2) (p j 1)

/-- An angle brought into one turn about zero. -/
def fold (q : EReal) : EReal :=
  (if Ideal.remf (q + pi) twoPi < 0 then Ideal.remf (q + pi) twoPi + twoPi else Ideal.remf (q + pi) twoPi) - pi

/-- The distance of two jets. -/
def dist (p : Jets) (a b : Fin 10) : EReal :=
  Ideal.sqrt ((eta p a - eta p b) * (eta p a - eta p b) + fold (phi p a - phi p b) * fold (phi p a - phi p b))

/-- How far a distance is from 0.8. -/
def dev (r : EReal) : EReal := max (r - target) (-(r - target))

/-- `s` is the first index at which `m` is least. -/
def IsBest {n : Nat} (m : Fin n → EReal) (s : Fin n) : Prop := (∀ t, m s ≤ m t) ∧ ∀ t, m t = m s → s ≤ t

theorem exists_best {n : Nat} (hn : 0 < n) (m : Fin n → EReal) : ∃ s, IsBest m s := by
  haveI : Nonempty (Fin n) := ⟨⟨0, hn⟩⟩
  obtain ⟨u, hu⟩ := Finite.exists_min m
  obtain ⟨s, hs, hmin⟩ := (Set.toFinite {t | m t = m u}).exists_minimal ⟨u, rfl⟩
  refine ⟨s, fun t => (hs : m s = m u) ▸ hu t, fun t ht => ?_⟩
  rcases le_total s t with h | h
  · exact h
  · exact hmin ((ht.trans hs : m t = m u)) h

/-! ## Scalar facts -/

/-- The remainder with the divisor's sign, as both programs select it. -/
theorem select_rem {t : EReal} (b c : BitVec 1) (x y : EReal) (hb : b = BitVec.ofBool (decide (t < 0)))
    (hc : c = BitVec.ofBool (decide (t ≠ 0))) : Scalar.select (IntOp.andi b c) x y = if t < 0 then x else y := by
  subst hb hc
  by_cases h : t < 0
  · have : t ≠ 0 := ne_of_lt h
    simp [h, this, IntOp.andi, Scalar.select]
  · simp [h, IntOp.andi, Scalar.select]

/-- The logarithm of `u + √(u² + 1)`, written so that small `u` lose nothing, is the inverse hyperbolic sine. -/
theorem log_form {u : ℝ} (hu : 0 ≤ u) :
    Ideal.log1p ((u : EReal) + Ideal.div ((u : EReal) * u) (1 + Ideal.sqrt ((u : EReal) * u + 1))) = ((Real.arsinh u : ℝ) : EReal) := by
  have h1 : (0 : ℝ) ≤ u * u + 1 := by positivity
  have e1 : Ideal.sqrt ((u : EReal) * u + 1) = ((Real.sqrt (u * u + 1) : ℝ) : EReal) := by
    rw [show (u : EReal) * u + 1 = ((u * u + 1 : ℝ) : EReal) by push_cast; rfl, Ideal.sqrt_coe, if_neg (not_lt.mpr h1)]
  set w := Real.sqrt (u * u + 1) with hw
  have hw0 : 0 ≤ w := Real.sqrt_nonneg _
  have hww : w * w = u * u + 1 := Real.mul_self_sqrt h1
  have hp : (1 + w : ℝ) ≠ 0 := by positivity
  have e2 : Ideal.div ((u : EReal) * u) (1 + (w : EReal)) = ((w - 1 : ℝ) : EReal) := by
    rw [show (1 : EReal) + w = ((1 + w : ℝ) : EReal) by push_cast; rfl]
    unfold Ideal.div
    rw [if_neg (by exact_mod_cast hp), ← EReal.coe_inv, ← EReal.coe_mul, ← EReal.coe_mul]
    congr 1
    field_simp
    nlinarith
  rw [e1, e2]
  unfold Ideal.log1p
  rw [show (1 : EReal) + ((u : EReal) + ((w - 1 : ℝ) : EReal)) = ((u + w : ℝ) : EReal) by
    rw [← EReal.coe_one, ← EReal.coe_add, ← EReal.coe_add]; congr 1; ring]
  have hpos : 0 < u + w := by nlinarith [Real.sqrt_nonneg (u * u + 1)]
  show (if u + w ≤ 0 then ⊥ else ((Real.log (u + w) : ℝ) : EReal)) = _
  rw [if_neg (not_le.mpr hpos)]
  unfold Real.arsinh
  rw [hw, show u * u + 1 = 1 + u ^ 2 by ring]

/-- Sign times the logarithm's form at the absolute value: the inverse hyperbolic sine. -/
theorem asinh_form (t : EReal) :
    (if 0 < max t (-t) then (if t < 0 then -1 else 1) else t)
      * Ideal.log1p (max t (-t) + Ideal.div (max t (-t) * max t (-t)) (1 + Ideal.sqrt (max t (-t) * max t (-t) + 1)))
      = Ideal.asinh t := by
  have top : Ideal.log1p ((⊤ : EReal) + Ideal.div (⊤ * ⊤) (1 + Ideal.sqrt (⊤ * ⊤ + 1))) = ⊤ := by
    have : (1 : EReal) + ⊤ = ⊤ := EReal.add_top_of_ne_bot (by decide)
    have t1 : (⊤ : EReal) + 1 = ⊤ := EReal.top_add_of_ne_bot (by decide)
    simp [Ideal.div, Ideal.log1p, t1, this]
  induction t using EReal.rec with
  | bot =>
    have : max (⊥ : EReal) (-⊥) = ⊤ := by simp
    rw [this, top]; simp
  | top =>
    have : max (⊤ : EReal) (-⊤) = ⊤ := by simp
    rw [this, top]; simp
  | coe r =>
    have e : max (r : EReal) (-(r : EReal)) = ((|r| : ℝ) : EReal) := by
      rw [← EReal.coe_neg]; exact (EReal.coe_strictMono.monotone.map_max (a := r) (b := -r)).symm
    rw [e, log_form (abs_nonneg r)]
    show _ = ((Real.arsinh r : ℝ) : EReal)
    rcases lt_trichotomy r 0 with h | h | h
    · rw [if_pos (by exact_mod_cast abs_pos.mpr h.ne), if_pos (by exact_mod_cast h), abs_of_neg h, Real.arsinh_neg]
      simp
    · subst h; simp
    · rw [if_pos (by exact_mod_cast abs_pos.mpr h.ne'), if_neg (by exact_mod_cast not_lt.mpr h.le), abs_of_pos h, one_mul]

/-- A minimum over all of a finite type, from infinity, is the least value. -/
theorem fold_min_eq {ι : Type} [Fintype ι] (f : ι → EReal) (m : EReal) (hle : ∀ i, m ≤ f i) (hex : ∃ i, f i = m) :
    Finset.univ.fold min ⊤ f = m := by
  apply le_antisymm
  · obtain ⟨i, hi⟩ := hex
    exact (Finset.fold_min_le _).mpr (Or.inr ⟨i, Finset.mem_univ _, hi.le⟩)
  · exact (Finset.le_fold_min _).mpr ⟨le_top, fun i _ => hle i⟩

/-! ## Words of natural numbers -/

/-- The single-precision pattern `w` is the natural number `n`: the zero pattern, or a positive normal one whose
    significand is `n` shifted. -/
def isNat (w : BitVec 32) (n : Nat) : Bool :=
  (w == 0#32 && n == 0) ||
  ((w.extractLsb' 31 1 == 0#1) && decide (127 ≤ (w.extractLsb' 23 8).toNat) && decide ((w.extractLsb' 23 8).toNat ≤ 150)
    && (2 ^ 23 + (w.extractLsb' 0 23).toNat == n * 2 ^ (150 - (w.extractLsb' 23 8).toNat)))

theorem ofBits_nat {w : BitVec 32} {n : Nat} (h : isNat w n = true) : Ideal.ofBits .f32 w = ((n : ℝ) : EReal) := by
  unfold isNat at h
  simp only [Bool.or_eq_true, Bool.and_eq_true, beq_iff_eq, decide_eq_true_eq] at h
  rcases h with ⟨rfl, rfl⟩ | ⟨⟨⟨hs, hlo⟩, hhi⟩, hv⟩
  · simp [Ideal.ofBits, Ideal.ieee]
  · show Ideal.ieee 8 23 w = _
    unfold Ideal.ieee
    have hs' : w.extractLsb' (8 + 23) 1 = 0#1 := hs
    generalize hE : (w.extractLsb' 23 8).toNat = E at hlo hhi hv
    generalize hT : (w.extractLsb' 0 23).toNat = T at hv
    simp only [hs', hE, hT]
    rw [if_neg (by omega), if_neg (by omega)]
    congr 1
    have hk : ((E : Int) - (2 ^ (8 - 1) - 1) - (23 : Nat)) = -((150 - E : Nat) : Int) := by omega
    rw [hk, zpow_neg, zpow_natCast]
    have hv' : ((2 ^ 23 + T : Nat) : ℝ) = (n : ℝ) * 2 ^ (150 - E) := by rw [hv]; push_cast; rfl
    rw [hv']
    have : (2 : ℝ) ^ (150 - E) ≠ 0 := by positivity
    simp

/-- The word of a small natural number, read back from the number as a real. -/
theorem fptosi_nat (n : Nat) (hn : n < 2 ^ 31) : Ideal.fptosi 32 ((n : ℝ) : EReal) = BitVec.ofNat 32 n := by
  unfold Ideal.fptosi
  have : Ideal.toIntClamped (-(2 ^ (32 - 1) : Nat)) ((2 ^ (32 - 1) : Nat) - 1) ((n : ℝ) : EReal) = (n : Int) := by
    show max _ (min _ (Ideal.truncInt (n : ℝ))) = _
    have : Ideal.truncInt (n : ℝ) = (n : Int) := by
      unfold Ideal.truncInt; rw [if_pos (Nat.cast_nonneg n)]; exact_mod_cast Int.floor_natCast (R := ℝ) n
    rw [this]; omega
  rw [this]
  exact BitVec.ofInt_natCast 32 n

end Cert.Row

end
-- ==== Proof.Tables.lean ====
/-
  The constant tables of the two programs: the 45 pairs of jets and the 630 combinations of two pairs, as the reference
  lists them, and what each of the kernel's six tables holds in terms of these.
-/
module

public import proofs.«01_k».proof.Proof.Gen.KernelIdeal
public import proofs.«01_k».proof.Proof.Gen.ReferenceIdeal
public import proofs.«01_k».proof.Proof.Row

@[expose] public section

set_option maxRecDepth 16384

noncomputable section

namespace Cert.Tables

open Idealize.ShloMosaic

/-- The first and the second jet of a pair. -/
def A (c : Fin 45) : Fin 10 := ⟨(Cert.ReferenceIdeal.lit0 ⟨2 * c, by omega⟩).toNat % 10, Nat.mod_lt _ (by decide)⟩
def B (c : Fin 45) : Fin 10 := ⟨(Cert.ReferenceIdeal.lit0 ⟨2 * c + 1, by omega⟩).toNat % 10, Nat.mod_lt _ (by decide)⟩

/-- The first and the second pair of a combination. -/
def C (s : Fin 630) : Fin 45 := ⟨(Cert.ReferenceIdeal.lit1 ⟨2 * s, by omega⟩).toNat % 45, Nat.mod_lt _ (by decide)⟩
def D (s : Fin 630) : Fin 45 := ⟨(Cert.ReferenceIdeal.lit1 ⟨2 * s + 1, by omega⟩).toNat % 45, Nat.mod_lt _ (by decide)⟩

/-- Past the last combination the kernel's lanes repeat it. -/
def clip (j : Nat) : Fin 630 := ⟨min j 629, by omega⟩

/-- What the payload table holds of a combination: its four jets and its two pairs. -/
def pay (s : Fin 630) (k : Fin 6) : Nat := (![(A (C s)).val, (B (C s)).val, (A (D s)).val, (B (D s)).val, (C s).val, (D s).val] : Fin 6 → Nat) k

theorem A_ne_B : ∀ c, A c ≠ B c := by decide +kernel

/-! ## The reference's tables -/

theorem ref_pair0 : ∀ c : Fin 45, Cert.ReferenceIdeal.lit0 (Cert.ReferenceIdeal.S45x2.rowMajor (ix2 c 0)) = BitVec.ofNat 32 (A c) := by decide +kernel
theorem ref_pair1 : ∀ c : Fin 45, Cert.ReferenceIdeal.lit0 (Cert.ReferenceIdeal.S45x2.rowMajor (ix2 c 1)) = BitVec.ofNat 32 (B c) := by decide +kernel
theorem ref_combo0 : ∀ s : Fin 630, Cert.ReferenceIdeal.lit1 (Cert.ReferenceIdeal.S630x2.rowMajor (ix2 s 0)) = BitVec.ofNat 32 (C s) := by decide +kernel
theorem ref_combo1 : ∀ s : Fin 630, Cert.ReferenceIdeal.lit1 (Cert.ReferenceIdeal.S630x2.rowMajor (ix2 s 1)) = BitVec.ofNat 32 (D s) := by decide +kernel

/-! ## The kernel's tables -/

section
open Cert.KernelIdeal

/-- The matrix that selects the momentum components. -/
def momT : FVec Ideal S40x48 .f32 := fun i => Ideal.ofBits .f32 (lit0 (S40x48.rowMajor i))
/-- The matrix of pair differences. -/
def diffT : FVec Ideal S48x16 .f32 := fun i => Ideal.ofBits .f32 (lit1 (S48x16.rowMajor i))
/-- The pairs of the combinations, along the lanes, -/
def firstT : IVec S1x640 32 := fun i => lit2 (S1x640.rowMajor i)
def secondT : IVec S1x640 32 := fun i => lit3 (S1x640.rowMajor i)
/-- their numbers, -/
def numberT : FVec Ideal S1x640 .f32 := fun i => Ideal.ofBits .f32 (lit4 (S1x640.rowMajor i))
/-- and what is looked up of them. -/
def payT : FVec Ideal S640x8 .f32 := fun i => Ideal.ofBits .f32 (lit5 (S640x8.rowMajor i))

theorem mom_words : ∀ (k : Fin 40) (a : Fin 48), a.val % 16 < 10 →
    lit0 (S40x48.rowMajor (ix2 k a)) = if k.val = 4 * (a.val % 16) + a.val / 16 + 1 then 0x3F800000#32 else 0x00000000#32 := by decide +kernel

theorem diff_words : ∀ (c : Fin 45) (k : Fin 16), lit1 (S48x16.rowMajor (ix2 (c.castLE (by decide)) k))
    = if k.val = (A c).val then 0x3F800000#32 else if k.val = (B c).val then 0xBF800000#32 else 0x00000000#32 := by decide +kernel

theorem number_words : ∀ j : Fin 640, Row.isNat (lit4 (S1x640.rowMajor (ix2 0 j))) (clip j).val = true := by decide +kernel

theorem pay_words : ∀ (s : Fin 630) (k : Fin 6),
    Row.isNat (lit5 (S640x8.rowMajor (ix2 (s.castLE (by decide)) (k.castLE (by decide))))) (pay s k) = true := by decide +kernel

theorem pay_words_past : ∀ (j : Fin 640) (k : Fin 8), 630 ≤ j.val → lit5 (S640x8.rowMajor (ix2 j k)) = 0x00000000#32 := by decide +kernel

theorem firstT_apply : ∀ j : Fin 640, firstT (ix2 0 j) = BitVec.ofNat 32 (C (clip j)) := by decide +kernel
theorem secondT_apply : ∀ j : Fin 640, secondT (ix2 0 j) = BitVec.ofNat 32 (D (clip j)) := by decide +kernel

theorem momT_apply (k : Fin 40) (a : Fin 48) (ha : a.val % 16 < 10) :
    momT (ix2 k a) = if k.val = 4 * (a.val % 16) + a.val / 16 + 1 then 1 else 0 := by
  rw [momT, mom_words k a ha]; split <;> simp

theorem diffT_apply (c : Fin 45) (k : Fin 16) :
    diffT (ix2 (c.castLE (by decide)) k) = if k.val = (A c).val then 1 else if k.val = (B c).val then -1 else 0 := by
  rw [diffT, diff_words]; split <;> [simp; split] <;> [exact Row.minus_one_word; simp]

theorem numberT_apply (j : Fin 640) : numberT (ix2 0 j) = (((clip j).val : ℝ) : EReal) := Row.ofBits_nat (number_words j)

theorem payT_apply (s : Fin 630) (k : Fin 6) :
    payT (ix2 (s.castLE (by decide)) (k.castLE (by decide))) = ((pay s k : ℝ) : EReal) := Row.ofBits_nat (pay_words s k)

theorem payT_past (j : Fin 640) (k : Fin 8) (h : 630 ≤ j.val) : payT (ix2 j k) = 0 := by
  rw [payT, pay_words_past j k h]; simp
end

end Cert.Tables

end
-- ==== Proof.Answer.lean ====
/-
  What both programs compute, row by row: of the 630 combinations of two pairs of jets the first whose measure is least,
  as seven columns — the combination's four jets, its two pairs' distances and its measure.
-/
module

public import proofs.«01_k».proof.Proof.Tables

@[expose] public section

noncomputable section

namespace Cert.Answer

open Cert.Tables Idealize.ShloMosaic

/-- The distance of a pair's two jets. -/
def pairDist (p : Row.Jets) (c : Fin 45) : EReal := Row.dist p (A c) (B c)

/-- The measure of a combination: how far its two pairs' distances lie from the target. -/
def score (p : Row.Jets) (s : Fin 630) : EReal := Row.dev (pairDist p (C s)) + Row.dev (pairDist p (D s))

/-- The first combination with the least measure. -/
def best (p : Row.Jets) : Fin 630 := Classical.choose (Row.exists_best (by decide) (score p))

theorem best_spec (p : Row.Jets) : Row.IsBest (score p) (best p) := Classical.choose_spec (Row.exists_best (by decide) (score p))

/-- A row of the result, of its jets. -/
def cols (p : Row.Jets) (k : Fin 7) : EReal :=
  if h : k.val < 4 then ((pay (best p) ⟨k, by omega⟩ : ℝ) : EReal)
  else if k.val = 4 then pairDist p (C (best p))
  else if k.val = 5 then pairDist p (D (best p))
  else score p (best p)

/-- The jets in row `r` of the argument. -/
def jetsAt (x : FVec Ideal ⟨3, ![400000, 10, 4]⟩ .f32) (r : Fin 400000) : Row.Jets := fun j k => x (ix3 r j k)

/-- The result. -/
def answer (x : FVec Ideal ⟨3, ![400000, 10, 4]⟩ .f32) : FVec Ideal ⟨2, ![400000, 7]⟩ .f32 := fun i => cols (jetsAt x (i 0)) (i 1)

end Cert.Answer

end
-- ==== Proof.ChunkAt.lean ====
/-
  The kernel's stages of one chunk, read at one row: each is the row's function of `Row`, at the jets, pairs and
  combinations the tables list.
-/
module

public import proofs.«01_k».proof.Proof.Chunk
public import proofs.«01_k».proof.Proof.Answer
public import Idealize.ShloMosaic.Lib.Pointwise
public import Idealize.ShloMosaic.Lib.Tactic.WordOmega

@[expose] public section

set_option maxRecDepth 16384

noncomputable section

namespace Cert.KernelIdeal.ChunkAt

open Cert.Answer Cert.KernelIdeal Cert.KernelIdeal.Gen Cert.KernelIdeal.Chunk Cert.Tables Idealize.ShloMosaic

/-- The jets in row `r` of a chunk: four components each, ten jets to a row. -/
def jetsOf (x : FVec Ideal S256x40 .f32) (r : Fin 256) : Row.Jets := fun j k => x (ix2 r ⟨4 * j + k, by omega⟩)

variable (x : FVec Ideal S256x40 .f32) (r : Fin 256)

/-! ## Momentum components and angles -/

theorem mom_apply (a : Fin 48) (j : Fin 10) (k : Fin 4) (h : a.val % 16 = j.val) (hk : a.val / 16 + 1 = k.val) :
    mom momT x (ix2 a r) = jetsOf x r j k := by
  pointwise [mom]
  have hc : 4 * j.val + k.val < 40 := by omega
  rw [Finset.sum_eq_single (⟨4 * j + k, hc⟩ : Fin 40) (fun b _ hb => ?_) (fun h => absurd (Finset.mem_univ _) h),
    momT_apply _ _ (by omega), if_pos (by show 4 * j.val + k.val = _; omega), mul_one]
  · rfl
  · rw [momT_apply _ _ (by omega), if_neg (fun e => hb (Fin.ext (by show b.val = 4 * j.val + k.val; omega))), mul_zero]

/-- Row `j` of the sixteen, for a jet. -/
abbrev jet (j : Fin 10) : Fin 16 := j.castLE (by decide)

theorem px_apply (j : Fin 10) : px (mom momT x) (ix2 (jet j) r) = jetsOf x r j 1 := by
  pointwise [px]
  exact mom_apply x r _ j 1 (by show j.val % 16 = _; omega) (by show j.val / 16 + 1 = 1; omega)

theorem py_apply (j : Fin 10) : py (mom momT x) (ix2 (jet j) r) = jetsOf x r j 2 := by
  pointwise [py]
  exact mom_apply x r _ j 2 (by show (16 + j.val) % 16 = _; omega) (by show (16 + j.val) / 16 + 1 = 2; omega)

theorem pz_apply (j : Fin 10) : pz (mom momT x) (ix2 (jet j) r) = jetsOf x r j 3 := by
  pointwise [pz]
  exact mom_apply x r _ j 3 (by show (32 + j.val) % 16 = _; omega) (by show (32 + j.val) / 16 + 1 = 3; omega)

theorem slope_apply (j : Fin 10) :
    slope (mom momT x) (ix2 (jet j) r) = Ideal.div (jetsOf x r j 3) (Ideal.sqrt (jetsOf x r j 1 * jetsOf x r j 1 + jetsOf x r j 2 * jetsOf x r j 2)) := by
  pointwise [Chunk.slope]
  rw [px_apply, py_apply, pz_apply]

theorem phi_apply (j : Fin 10) : phi (mom momT x) (ix2 (jet j) r) = Row.phi (jetsOf x r) j := by
  pointwise [phi]
  rw [px_apply, py_apply]
  rfl

theorem guard_top : (Named.named (F := Ideal) (φ := .f32) κ "guard" 0x5F0AC723#32 : EReal) = ⊤ := rfl
theorem cap_top : (Named.named (F := Ideal) (φ := .f32) κ "cap" 0x7F61B1E6#32 : EReal) = ⊤ := rfl

theorem eta_apply (j : Fin 10) : eta (mom momT x) (ix2 (jet j) r) = Row.eta (jetsOf x r) j := by
  have hm : IntOp.cmpi CmpIPredicate.slt (BitVec.ofNat 32 ((jet j : Fin 16) : Nat)) 10#32 = 1#1 := by revert j; decide
  pointwise [eta, sgn, logForm, jets]
  rw [hm, guard_top, Row.minus_one_word, if_neg not_top_lt, slope_apply]
  exact Row.asinh_form _

/-! ## Pair distances -/

/-- Row `c` of the forty-eight, for a pair. -/
abbrev pr (c : Fin 45) : Fin 48 := c.castLE (by decide)

theorem diffs_apply (e : FVec Ideal S16x256 .f32) (c : Fin 45) :
    diffs diffT e (ix2 (pr c) r) = e (ix2 (jet (A c)) r) - e (ix2 (jet (B c)) r) := by
  have hAB : (A c).val ≠ (B c).val := fun h => A_ne_B c (Fin.ext h)
  pointwise [diffs]
  have : ∀ k : Fin 16, diffT (ix2 (pr c) k) * e (ix2 k r)
      = (if k = jet (A c) then e (ix2 k r) else 0) + (if k = jet (B c) then -e (ix2 k r) else 0) := by
    intro k
    have hA : k = jet (A c) ↔ k.val = (A c).val := Fin.ext_iff
    have hB : k = jet (B c) ↔ k.val = (B c).val := Fin.ext_iff
    rw [diffT_apply]
    by_cases h1 : k.val = (A c).val
    · rw [if_pos h1, if_pos (hA.mpr h1), if_neg (fun h => hAB (h1.symm.trans (hB.mp h))), one_mul, add_zero]
    · rw [if_neg h1, if_neg (fun h => h1 (hA.mp h))]
      by_cases h2 : k.val = (B c).val
      · rw [if_pos h2, if_pos (hB.mpr h2), zero_add, neg_mul, one_mul]
      · rw [if_neg h2, if_neg (fun h => h2 (hB.mp h)), zero_mul, zero_add]
  rw [Finset.sum_congr rfl fun k _ => this k, Finset.sum_add_distrib, Finset.sum_ite_eq' , Finset.sum_ite_eq',
    if_pos (Finset.mem_univ _), if_pos (Finset.mem_univ _), sub_eq_add_neg]

theorem fold_apply (q : FVec Ideal S48x256 .f32) (c : Fin 48) : fold q (ix2 c r) = Row.fold (q (ix2 c r)) := by
  pointwise [fold, pairs, rem]
  rw [Row.select_rem _ _ _ _ (t := Ideal.remf (q (ix2 c r) + Ideal.ofBits .f32 0x40490FDB#32) (Ideal.ofBits .f32 0x40C90FDB#32)) ?_ rfl]
  · rfl
  · rw [decide_eq_false (p := Ideal.ofBits FTy.f32 1086918619#32 < 0) Row.twoPi_pos]
    show _ ^^^ 0#1 = _
    rw [BitVec.xor_zero]

theorem dist_apply (c : Fin 45) : dist diffT (mom momT x) (ix2 (pr c) r) = pairDist (jetsOf x r) c := by
  pointwise [Chunk.dist]
  rw [fold_apply, diffs_apply, diffs_apply, eta_apply, eta_apply, phi_apply, phi_apply]
  rfl

theorem dev_apply (q : FVec Ideal S48x256 .f32) (c : Fin 48) : dev q (ix2 c r) = Row.dev (q (ix2 c r)) := by
  pointwise [dev, pairs]
  rw [cap_top, if_neg (fun h => h rfl), min_top_right]
  rfl

theorem lanes_apply (q : FVec Ideal S48x256 .f32) (c : Fin 45) : lanes q (ix2 r (c.castLE (by decide))) = q (ix2 (pr c) r) := by
  pointwise [lanes]
  rw [dif_pos (show ((c.castLE (by decide) : Fin 128) : Nat) < 48 from by show c.val < 48; omega)]
  rfl

/-! ## Combinations -/

theorem row_apply {α : Type} (o : Nat) (h : S1x640.Slices ![0, o] S1x128) (v : S1x640.Idx → α) (l : Fin 128) (ho : o + l.val < 640) :
    row o h v (ix2 r l) = v (ix2 0 ⟨o + l, ho⟩) := by
  pointwise [row]

/-- A lane index that numbers a pair is not negative and is in the row. -/
theorem wrap_pair (c : Fin 45) : (Scalar.select (IntOp.cmpi .slt (BitVec.ofNat 32 c) 0#32) (IntOp.addi (BitVec.ofNat 32 c) 128#32)
    (BitVec.ofNat 32 c)).toNat % 128 = c.val := by revert c; decide

theorem pick_apply (a : FVec Ideal S256x128 .f32) (k : IVec S256x128 32) (l : Fin 128) (c : Fin 45) (hk : k (ix2 r l) = BitVec.ofNat 32 c) :
    pick a k (ix2 r l) = a (ix2 r (c.castLE (by decide))) := by
  pointwise [pick]
  congr 2
  exact Fin.ext ((congrArg (fun b : BitVec 32 => (Scalar.select (IntOp.cmpi .slt b 0#32) (IntOp.addi b 128#32) b).toNat % 128) hk).trans (wrap_pair c))

/-- The chunk's deviations along the lanes. -/
abbrev devs : FVec Ideal S256x128 .f32 := lanes (dev (dist diffT (mom momT x)))

theorem tile_apply (o : Nat) (h : S1x640.Slices ![0, o] S1x128) (l : Fin 128) (ho : o + l.val < 640) :
    tile o h firstT secondT (devs x) (ix2 r l) = score (jetsOf x r) (clip (o + l)) := by
  pointwise [tile]
  rw [pick_apply r _ _ l _ ((row_apply r o h firstT l ho).trans (firstT_apply _)),
    pick_apply r _ _ l _ ((row_apply r o h secondT l ho).trans (secondT_apply _)), devs, lanes_apply, lanes_apply, dev_apply, dev_apply,
    dist_apply, dist_apply]
  rfl

end Cert.KernelIdeal.ChunkAt

end
-- ==== Proof.Search.lean ====
/-
  The kernel's search for the row's best combination. Over five tiles of 128 lanes each lane keeps its least measure and
  the number of the first tile's combination that has it; the row's least measure is the least over the lanes, and the
  smallest number kept by a lane with that measure is the first best combination. Its four labels and two pairs are then
  looked up by a one-hot product with the payload table.
-/
module

public import proofs.«01_k».proof.Proof.ChunkAt

@[expose] public section

set_option maxRecDepth 16384

noncomputable section

namespace Cert.KernelIdeal.Search

open Cert.Answer Cert.KernelIdeal Cert.KernelIdeal.Gen Cert.KernelIdeal.Chunk Cert.KernelIdeal.ChunkAt Cert.Tables Idealize.ShloMosaic

/-! ## One lane -/

/-- A lane's state after `n` tiles with values `f` and numbers `g`: the least value, and the number of the first tile that has
    it (zero where every value so far is infinite). -/
def Kept (f g : Nat → EReal) (n : Nat) (v b : EReal) : Prop :=
  (∀ i < n, v ≤ f i) ∧ ((v = ⊤ ∧ b = 0) ∨ ∃ i < n, f i = v ∧ b = g i ∧ ∀ k < n, f k = v → i ≤ k)

theorem kept_start (f g : Nat → EReal) : Kept f g 0 ⊤ 0 := ⟨fun i h => absurd h (Nat.not_lt_zero i), Or.inl ⟨rfl, rfl⟩⟩

theorem kept_step {f g : Nat → EReal} {n : Nat} {v b : EReal} (h : Kept f g n v b) :
    Kept f g (n + 1) (min v (f n)) (if f n < v then g n else b) := by
  obtain ⟨hle, hb⟩ := h
  by_cases hlt : f n < v
  · rw [if_pos hlt, min_eq_right hlt.le]
    refine ⟨fun i hi => ?_, Or.inr ⟨n, Nat.lt_succ_self n, rfl, rfl, fun k hk e => ?_⟩⟩
    · rcases Nat.lt_succ_iff_lt_or_eq.mp hi with h | rfl
      · exact hlt.le.trans (hle i h)
      · exact le_rfl
    · rcases Nat.lt_succ_iff_lt_or_eq.mp hk with h | rfl
      · exact absurd e (ne_of_gt (hlt.trans_le (hle k h)))
      · exact le_rfl
  · have hv : v ≤ f n := not_lt.mp hlt
    rw [if_neg hlt, min_eq_left hv]
    refine ⟨fun i hi => ?_, hb.imp id fun ⟨i, hi, e, eb, hmin⟩ => ⟨i, hi.trans (Nat.lt_succ_self n), e, eb, fun k hk ek => ?_⟩⟩
    · rcases Nat.lt_succ_iff_lt_or_eq.mp hi with h | rfl
      · exact hle i h
      · exact hv
    · rcases Nat.lt_succ_iff_lt_or_eq.mp hk with h | rfl
      · exact hmin k h ek
      · exact hi.le

/-! ## The row's search -/

variable (x : FVec Ideal S256x40 .f32) (r : Fin 256)

/-- The measures and the numbers of the five combinations of a lane. -/
def laneVal (p : Row.Jets) (l : Fin 128) (i : Nat) : EReal := score p (clip (128 * i + l))
def laneNum (l : Fin 128) (i : Nat) : EReal := (((clip (128 * i + l)).val : ℝ) : EReal)

theorem step_kept (i : Nat) (hi : i < 5) (h : S1x640.Slices ![0, 128 * i] S1x128) (l : Fin 128) (s : FVec Ideal S256x128 .f32 × FVec Ideal S256x128 .f32)
    (hs : Kept (laneVal (jetsOf x r) l) (laneNum l) i (s.1 (ix2 r l)) (s.2 (ix2 r l))) :
    Kept (laneVal (jetsOf x r) l) (laneNum l) (i + 1) ((step (128 * i) h firstT secondT numberT (devs x) s).1 (ix2 r l))
      ((step (128 * i) h firstT secondT numberT (devs x) s).2 (ix2 r l)) := by
  have ho : 128 * i + l.val < 640 := by omega
  have h1 : (step (128 * i) h firstT secondT numberT (devs x) s).1 (ix2 r l) = min (s.1 (ix2 r l)) (laneVal (jetsOf x r) l i) := by
    pointwise [step]
    rw [tile_apply x r _ h l ho]; rfl
  have h2 : (step (128 * i) h firstT secondT numberT (devs x) s).2 (ix2 r l)
      = if laneVal (jetsOf x r) l i < s.1 (ix2 r l) then laneNum l i else s.2 (ix2 r l) := by
    pointwise [step]
    rw [tile_apply x r _ h l ho, row_apply r _ h _ l ho, numberT_apply]; rfl
  rw [h1, h2]
  exact kept_step hs

/-- The kernel's search at the tables. -/
abbrev search : FVec Ideal S256x128 .f32 × FVec Ideal S256x128 .f32 := found momT diffT firstT secondT numberT x

theorem search_kept (l : Fin 128) :
    Kept (laneVal (jetsOf x r) l) (laneNum l) 5 ((search x).1 (ix2 r l)) ((search x).2 (ix2 r l)) := by
  have h0 : Kept (laneVal (jetsOf x r) l) (laneNum l) 0 (start.1 (ix2 r l)) (start.2 (ix2 r l)) := by
    have e1 : start.1 (ix2 r l) = (⊤ : EReal) := by pointwise [start]; exact Row.top_word
    have e2 : start.2 (ix2 r l) = (0 : EReal) := by pointwise [start]
    rw [e1, e2]; exact kept_start _ _
  exact step_kept x r 4 (by decide) slices_S1x640_o0_512_S1x128 l _ (step_kept x r 3 (by decide) slices_S1x640_o0_384_S1x128 l _
    (step_kept x r 2 (by decide) slices_S1x640_o0_256_S1x128 l _ (step_kept x r 1 (by decide) slices_S1x640_o0_128_S1x128 l _
      (step_kept x r 0 (by decide) slices_S1x640_o0_0_S1x128 l _ h0))))

variable {x r} {s : Fin 630} (hs : Row.IsBest (score (jetsOf x r)) s)

/-- The lane of a combination, and its tile. -/
theorem clip_lane (s : Fin 630) : clip (128 * (s.val / 128) + s.val % 128) = s := Fin.ext (by show min _ 629 = _; omega)

include hs in
theorem lane_ge (l : Fin 128) : score (jetsOf x r) s ≤ (search x).1 (ix2 r l) := by
  rcases (search_kept x r l).2 with ⟨e, _⟩ | ⟨i, _, e, _⟩
  · rw [e]; exact le_top
  · rw [← e]; exact hs.1 _

/-- The lane that holds the best combination, -/
abbrev lane (s : Fin 630) : Fin 128 := ⟨s.val % 128, Nat.mod_lt _ (by decide)⟩

theorem laneVal_lane (p : Row.Jets) : laneVal p (lane s) (s.val / 128) = score p s := congrArg (score p) (clip_lane s)

include hs in
theorem lane_eq : (search x).1 (ix2 r (lane s)) = score (jetsOf x r) s :=
  le_antisymm (((search_kept x r (lane s)).1 (s.val / 128) (by omega)).trans (laneVal_lane _).le) (lane_ge hs _)

include hs in
/-- A lane with the least measure keeps a number that is the best combination's or a later one, -/
theorem num_ge (l : Fin 128) (h : (search x).1 (ix2 r l) = score (jetsOf x r) s) : ((s.val : ℝ) : EReal) ≤ (search x).2 (ix2 r l) := by
  have key : ∀ t : Fin 630, score (jetsOf x r) t = score (jetsOf x r) s → ((s.val : ℝ) : EReal) ≤ ((t.val : ℝ) : EReal) := fun t ht =>
    EReal.coe_le_coe_iff.mpr (by exact_mod_cast hs.2 t ht)
  rcases (search_kept x r l).2 with ⟨e, eb⟩ | ⟨i, _, e, eb, _⟩
  · rw [eb]
    have : score (jetsOf x r) s = ⊤ := h.symm.trans e
    have := key ⟨0, by decide⟩ (le_antisymm (this ▸ le_top) (hs.1 _))
    simpa using this
  · rw [eb]; exact key _ (e.trans h)

include hs in
/-- and the best combination's lane keeps exactly its number. -/
theorem num_eq : (search x).2 (ix2 r (lane s)) = ((s.val : ℝ) : EReal) := by
  refine le_antisymm ?_ (num_ge hs _ (lane_eq hs))
  rcases (search_kept x r (lane s)).2 with ⟨e, eb⟩ | ⟨i, hi, e, eb, hmin⟩
  · rw [eb]; exact EReal.coe_nonneg.mpr (Nat.cast_nonneg _)
  · rw [eb]
    have hle : i ≤ s.val / 128 := hmin _ (by omega) ((laneVal_lane _).trans (lane_eq hs).symm)
    refine EReal.coe_le_coe_iff.mpr (Nat.cast_le.mpr ?_)
    show min (128 * i + s.val % 128) 629 ≤ s.val
    omega

theorem rowMin_apply (v : FVec Ideal S256x128 .f32) : rowMin v (ix2 r 0) = Finset.univ.fold min ⊤ (fun l : Fin 128 => v (ix2 r l)) := by
  pointwise [rowMin]
  rw [Row.top_word]

include hs in
theorem least_apply : rowMin (search x).1 (ix2 r 0) = score (jetsOf x r) s := by
  rw [rowMin_apply]
  exact Row.fold_min_eq _ _ (lane_ge hs) ⟨lane s, lane_eq hs⟩

theorem billion : ((629 : ℝ) : EReal) ≤ Ideal.ofBits .f32 0x4E6E6B28#32 := by
  have : Ideal.ofBits .f32 0x4E6E6B28#32 = ((15625000 * 2 ^ (6 : Int) : ℝ) : EReal) := by
    simp [Ideal.ofBits, Ideal.ieee, -EReal.coe_mul]
  rw [this, EReal.coe_le_coe_iff]; norm_num

include hs in
theorem number_apply : number (search x) (ix2 r 0) = ((s.val : ℝ) : EReal) := by
  unfold number
  rw [rowMin_apply]
  have e : ∀ l : Fin 128, select (cmpf .oeq (search x).1 (along (rowMin (search x).1))) (search x).2
      (broadcast S256x128 (Scalar.ofBits .f32 0x4E6E6B28#32)) (ix2 r l)
      = if (search x).1 (ix2 r l) = score (jetsOf x r) s then (search x).2 (ix2 r l) else Ideal.ofBits .f32 0x4E6E6B28#32 := by
    intro l
    pointwise [along]
    rw [least_apply hs]
  refine Row.fold_min_eq _ _ (fun l => ?_) ⟨lane s, ?_⟩
  · rw [e]
    split
    · exact num_ge hs l ‹_›
    · exact le_trans (EReal.coe_le_coe_iff.mpr (by exact_mod_cast (show s.val ≤ 629 by omega))) billion
  · rw [e, if_pos (lane_eq hs)]; exact num_eq hs

/-! ## The look-up -/

theorem indicator (b : Bool) : (FloatOps.sitofp (F := Ideal) FTy.f32 (BitVec.setWidth 32 (BitVec.ofBool b)) : EReal) = if b then 1 else 0 := by
  cases b
  · show (((0 : Int) : ℝ) : EReal) = _; simp
  · show (((1 : Int) : ℝ) : EReal) = _; simp

theorem lookTile_apply (o : Nat) (h : S1x640.Slices ![0, o] S1x128) (h' : S640x8.Slices ![o, 0] S128x8) (ho : o + 128 ≤ 640)
    (n : FVec Ideal S256x1 .f32) (hn : n (ix2 r 0) = ((s.val : ℝ) : EReal)) (k : Fin 8) :
    lookTile o h h' numberT payT n (ix2 r k) = if o ≤ s.val ∧ s.val < o + 128 then payT (ix2 (s.castLE (by decide)) k) else 0 := by
  pointwise [lookTile, along]
  have term : ∀ l : Fin 128, (FloatOps.sitofp (F := Ideal) FTy.f32 (BitVec.setWidth 32 (BitVec.ofBool (decide (row o h numberT (ix2 r l) = n (ix2 r 0))))) : EReal)
      * payT (ix2 ⟨o + l.val, by omega⟩ k) = if o + l.val = s.val then payT (ix2 (s.castLE (by decide)) k) else 0 := by
    intro l
    have hl : o + l.val < 640 := by omega
    rw [indicator, row_apply r o h numberT l hl, numberT_apply, hn]
    by_cases e : o + l.val = s.val
    · rw [if_pos e, if_pos, one_mul]
      · congr 2; exact Fin.ext e
      · rw [decide_eq_true_eq]
        have : (clip (o + l.val)).val = s.val := by show min _ 629 = _; omega
        rw [this]
    · rw [if_neg e]
      by_cases h630 : o + l.val < 630
      · rw [if_neg, zero_mul]
        rw [decide_eq_true_eq, EReal.coe_eq_coe_iff, Nat.cast_inj]
        show ¬ min (o + l.val) 629 = s.val
        omega
      · rw [payT_past _ _ (not_lt.mp h630), mul_zero]
  rw [Finset.sum_congr rfl fun l _ => term l]
  by_cases hc : o ≤ s.val ∧ s.val < o + 128
  · rw [if_pos hc, Finset.sum_eq_single (⟨s.val - o, by omega⟩ : Fin 128)]
    · rw [if_pos (by show o + (s.val - o) = _; omega)]
    · intro l _ hl
      rw [if_neg fun e => hl (Fin.ext (by show l.val = s.val - o; omega))]
    · exact fun h => absurd (Finset.mem_univ _) h
  · rw [if_neg hc]
    refine Finset.sum_eq_zero fun l _ => if_neg fun e => hc ⟨by omega, by omega⟩

theorem look_apply (n : FVec Ideal S256x1 .f32) (hn : n (ix2 r 0) = ((s.val : ℝ) : EReal)) (k : Fin 8) :
    look numberT payT n (ix2 r k) = payT (ix2 (s.castLE (by decide)) k) := by
  pointwise [look]
  rw [lookTile_apply 0 _ _ (by decide) n hn, lookTile_apply 128 _ _ (by decide) n hn, lookTile_apply 256 _ _ (by decide) n hn,
    lookTile_apply 384 _ _ (by decide) n hn, lookTile_apply 512 _ _ (by decide) n hn]
  have h : s.val < 630 := s.isLt
  split_ifs <;> first | omega | simp

include hs in
theorem payload_apply (k : Fin 6) :
    payload momT diffT firstT secondT numberT payT x (ix2 r (k.castLE (by decide))) = ((pay s k : ℝ) : EReal) :=
  (look_apply _ (number_apply hs) _).trans (payT_apply s k)

/-! ## The four column groups -/

include hs in
theorem labels_apply (k : Fin 4) :
    labels momT diffT firstT secondT numberT payT x (ix2 r k) = ((pay s (k.castLE (by decide)) : ℝ) : EReal) := by
  pointwise [labels]
  exact payload_apply hs (k.castLE (by decide))

theorem chosen_apply (v : FVec Ideal S256x128 .f32) (k : FVec Ideal S256x1 .f32) (c : Fin 45) (hk : k (ix2 r 0) = ((c.val : ℝ) : EReal)) :
    chosen v k (ix2 r 0) = v (ix2 r (c.castLE (by decide))) := by
  pointwise [chosen]
  refine pick_apply r _ _ 0 c ?_
  pointwise [along]
  rw [hk]
  exact Row.fptosi_nat c.val (by omega)

include hs in
theorem first_apply : first momT diffT firstT secondT numberT payT x (ix2 r 0) = pairDist (jetsOf x r) (C s) := by
  unfold first
  rw [chosen_apply _ _ (C s), lanes_apply, dist_apply]
  pointwise
  exact payload_apply hs 4

include hs in
theorem second_apply : second momT diffT firstT secondT numberT payT x (ix2 r 0) = pairDist (jetsOf x r) (D s) := by
  unfold second
  rw [chosen_apply _ _ (D s), lanes_apply, dist_apply]
  pointwise
  exact payload_apply hs 5

end Cert.KernelIdeal.Search

end
-- ==== Proof.Block.lean ====
/-
  The block a point of the kernel's grid leaves, and the result array the points' blocks make up, at an index.
-/
module

public import proofs.«01_k».proof.Proof.Blocks
public import proofs.«01_k».proof.Proof.Search

@[expose] public section

set_option maxRecDepth 16384

noncomputable section

namespace Cert.KernelIdeal.Block

open Cert.Answer Cert.KernelIdeal Cert.KernelIdeal.Gen Cert.KernelIdeal.ChunkAt Cert.KernelIdeal.Blocks Cert.KernelIdeal.Search Cert.Tables
open Idealize.ShloMosaic Idealize.ShloMosaic.TcCoe Idealize.SL.Sem
open Idealize.ShloMosaic.Pipeline (Dat)

section
variable (x0 x1 x2 x3 : FVec Ideal S256x40 .f32)

/-- The jets of a block's row: its chunk's row `y mod 256`. -/
def rowJets (y : Fin 1024) : Row.Jets :=
  jetsOf (if y.val < 256 then x0 else if y.val < 512 then x1 else if y.val < 768 then x2 else x3) ⟨y.val % 256, Nat.mod_lt _ (by decide)⟩

variable {x0 x1 x2 x3} in
theorem row_jets {y : Fin 1024} {r : Fin 256} {x : FVec Ideal S256x40 .f32} (hr : y.val % 256 = r.val)
    (hx : (if y.val < 256 then x0 else if y.val < 512 then x1 else if y.val < 768 then x2 else x3) = x) :
    jetsOf x r = rowJets x0 x1 x2 x3 y := congr (congrArg jetsOf hx.symm) (Fin.ext hr.symm)

theorem column (q : S256x1.Idx) : q = ix2 (q 0) 0 := funext (Fin.forall_fin_two.mpr ⟨rfl, Subsingleton.elim (α := Fin 1) _ _⟩)

/-- The four stores' values, at an index of theirs. -/
theorem least_at (x : FVec Ideal S256x40 .f32) (q : S256x1.Idx) {p : Row.Jets} {k : Fin 7} (hp : jetsOf x (q 0) = p) (hk : k.val = 6) :
    Chunk.least momT diffT firstT secondT numberT x q = cols p k := by
  subst hp
  rw [column q]
  refine (least_apply (best_spec _)).trans ?_
  unfold cols
  rw [dif_neg (by omega), if_neg (by omega), if_neg (by omega)]
  rfl

theorem second_at (x : FVec Ideal S256x40 .f32) (q : S256x1.Idx) {p : Row.Jets} {k : Fin 7} (hp : jetsOf x (q 0) = p) (hk : k.val = 5) :
    Chunk.second momT diffT firstT secondT numberT payT x q = cols p k := by
  subst hp
  rw [column q]
  refine (second_apply (best_spec _)).trans ?_
  unfold cols
  rw [dif_neg (by omega), if_neg (by omega), if_pos hk]
  rfl

theorem first_at (x : FVec Ideal S256x40 .f32) (q : S256x1.Idx) {p : Row.Jets} {k : Fin 7} (hp : jetsOf x (q 0) = p) (hk : k.val = 4) :
    Chunk.first momT diffT firstT secondT numberT payT x q = cols p k := by
  subst hp
  rw [column q]
  refine (first_apply (best_spec _)).trans ?_
  unfold cols
  rw [dif_neg (by omega), if_pos hk]
  rfl

theorem labels_at (x : FVec Ideal S256x40 .f32) (q : S256x4.Idx) {p : Row.Jets} {k : Fin 7} (hp : jetsOf x (q 0) = p) (hk : k.val = q 1) :
    Chunk.labels momT diffT firstT secondT numberT payT x q = cols p k := by
  have h4 : (q 1).val < 4 := (q 1).isLt
  subst hp
  rw [eq_ix2 q]
  refine (labels_apply (best_spec _) (q 1)).trans ?_
  unfold cols
  rw [dif_pos (by omega)]
  have : (⟨k.val, by omega⟩ : Fin 6) = (q 1).castLE (show 4 ≤ 6 by decide) := Fin.ext hk
  rw [this]
  rfl

theorem cover (y : S1024x7.Idx) :
    ∃ pc ∈ all momT diffT firstT secondT numberT payT x0 x1 x2 x3, y ∈ pc.1.set :=
  View.cover_of_tiledBy _ ![256, 1] (by sl_kernel_rfl) y

theorem canon_apply (y : S1024x7.Idx) :
    View.canon (all momT diffT firstT secondT numberT payT x0 x1 x2 x3) y = cols (rowJets x0 x1 x2 x3 (y 0)) (y 1) := by
  unfold all stores
  simp only [List.cons_append, List.nil_append]
  canon_tiles x h using (cover x0 x1 x2 x3 y)
  case' piece0 | piece4 | piece8 | piece12 => refine least_at _ _ ?_ ?_
  case' piece1 | piece5 | piece9 | piece13 => refine second_at _ _ ?_ ?_
  case' piece2 | piece6 | piece10 | piece14 => refine first_at _ _ ?_ ?_
  case' piece3 | piece7 | piece11 | piece15 => refine labels_at _ _ ?_ ?_
  all_goals first
    | omega
    | refine row_jets (by omega) ?_
      split_ifs <;> first | rfl | omega
end

end Cert.KernelIdeal.Block

end
-- ==== Proof.Result.lean ====
/-
  The kernel's result array: on the rows its 390 blocks cover it holds the answer, row by row.
-/
module

public import proofs.«01_k».proof.Proof.Block

@[expose] public section

set_option maxRecDepth 16384

noncomputable section

namespace Cert.KernelIdeal.Result

open Cert.Answer Cert.KernelIdeal Cert.KernelIdeal.Gen Cert.KernelIdeal.ChunkAt Cert.KernelIdeal.Blocks Cert.KernelIdeal.Block Cert.Tables
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-! ## What the blocks of the inputs hold -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])

/-- The six tables' blocks are the tables. -/
theorem tab1 : iblk m c 1 t = momT := by
  funext y; blk_simp [iblk]; entry_read; show momT _ = momT y; blk_ext [idx1 t]
theorem tab2 : iblk m c 2 t = diffT := by
  funext y; blk_simp [iblk]; entry_read; show diffT _ = diffT y; blk_ext [idx2 t]
theorem tab3 : iblk m c 3 t = firstT := by
  funext y; blk_simp [iblk]; entry_read; show firstT _ = firstT y; blk_ext [idx3 t]
theorem tab4 : iblk m c 4 t = secondT := by
  funext y; blk_simp [iblk]; entry_read; show secondT _ = secondT y; blk_ext [idx4 t]
theorem tab5 : iblk m c 5 t = numberT := by
  funext y; blk_simp [iblk]; entry_read; show numberT _ = numberT y; blk_ext [idx5 t]
theorem tab6 : iblk m c 6 t = payT := by
  funext y; blk_simp [iblk]; entry_read; show payT _ = payT y; blk_ext [idx6 t]

/-- The argument's block, of which the body loads four chunks: its row is the array's row of the same place. -/
theorem x_apply (y : Fin 1024) (q : Fin 40) (i : Fin 400000) (j : Fin 10) (k : Fin 4) (hi : i.val = 1024 * t.val + y.val) (hq : q.val = 4 * j.val + k.val) :
    X0_0 m c t (ix2 y q) = m ((c : Thread nD τ).loc main_arg0) (ix3 i j k) := by
  unfold X0_0 Pipeline.Window.fill
  rw [dif_pos (moved0_0 t _)]
  blk_simp [iblk, idx0 t]
  entry_read
  pointwise
  blk_ext [idx0 t]

theorem after_eq : (dats m 0 c).after 7 t = View.canon (all (iblk m c 1 t) (iblk m c 2 t) (iblk m c 3 t) (iblk m c 4 t) (iblk m c 5 t) (iblk m c 6 t)
    (View.ld (X0_0 m c t) (Rect.unit (s := S1024x40) ![0, 0] S256x40.size inb_S1024x40_S256x40_0_0))
    (View.ld (X0_0 m c t) (Rect.unit (s := S1024x40) ![256, 0] S256x40.size inb_S1024x40_S256x40_256_0))
    (View.ld (X0_0 m c t) (Rect.unit (s := S1024x40) ![512, 0] S256x40.size inb_S1024x40_S256x40_512_0))
    (View.ld (X0_0 m c t) (Rect.unit (s := S1024x40) ![768, 0] S256x40.size inb_S1024x40_S256x40_768_0))) := by
  have hz : (![0, 0] : Fin 2 → Nat) = fun _ => 0 := funext fun a => by fin_cases a <;> rfl
  rw [after0_7]
  unfold outsAt0 out0_A_7
  rw [View.read_writes_junk_eq_canon, pieces]
  refine congrArg View.canon ?_
  congr 1
  case' e_w | e_d | e_c0 | e_c1 | e_l | e_pay => refine (View.readAt_eq_ld ..).trans ((congrArg (View.ld · _) (Memref.IsWhole.read_unread ..)).trans (View.ld_unit_zero hz ..))
  all_goals exact (View.readAt_eq_ld ..).trans (congrArg (View.ld · _) (Memref.IsWhole.read_unread ..))

variable {t} in
/-- The jets of a block's row are the array's. -/
theorem ld_jets (o : Nat) (h : ∀ a, (![o, 0] : Fin 2 → Nat) a + S256x40.size a ≤ S1024x40.size a) (r : Fin 256) (i : Fin 400000)
    (hi : i.val = 1024 * t.val + (o + r.val)) (ho : o + r.val < 1024) :
    jetsOf (View.ld (X0_0 m c t) (Rect.unit (s := S1024x40) ![o, 0] S256x40.size h)) r = jetsAt (m ((c : Thread nD τ).loc main_arg0)) i := by
  funext j k
  refine Eq.trans ?_ (x_apply m c t ⟨o + r.val, ho⟩ ⟨4 * j.val + k.val, by omega⟩ i j k hi rfl)
  exact View.ld_unit_apply_of _ _ _ _ _ _ (Fin.forall_fin_two.mpr ⟨rfl, (Nat.zero_add _).symm⟩)

theorem after_apply (y : S1024x7.Idx) (i : Fin 400000) (hi : i.val = 1024 * t.val + (y 0).val) :
    (dats m 0 c).after 7 t y = cols (jetsAt (m ((c : Thread nD τ).loc main_arg0)) i) (y 1) := by
  have hy : (y 0).val < 1024 := (y 0).isLt
  rw [after_eq, tab1, tab2, tab3, tab4, tab5, tab6]
  refine (canon_apply ..).trans (congrArg (cols · (y 1)) ?_)
  unfold rowJets
  split_ifs <;> exact ld_jets m c _ _ _ _ (by dsimp only; omega) (by dsimp only; omega)

theorem array : (dats m 0 c).arrAt 7 cfg0.N
    = fun i => if (i 0 : Nat) < 399360 then answer (m ((c : Thread nD τ).loc main_arg0)) i else (dats m 0 c).A 7 i := by
  refine (dats m 0 c).arrAt_eq_of_coversWhere 7 _ (fun β => β (0 : Fin 2) < 390) (by decide +kernel) (fun t hf y => ?_)
    (fun j => by blk_simp [Pipeline.Window.cell_apply]; omega)
  blk_simp [idx7 t]
  refine (after_apply m c t _ (((win0_7.blk t).view.emb y) 0) ?_).trans (congrArg (cols _) ?_)
  · have : ((cfg0.win 7).xinj (cfg0.grid.coords t) y 0).val = (y 0).val := rfl
    blk_simp [idx7 t]; omega
  · refine Fin.ext ?_; blk_simp [idx7 t]

end Cert.KernelIdeal.Result

end
-- ==== Proof.RefRun.lean ====
/-
  The reference's run. Its program is one straight line of host operations (two index tables, the angles, the pair
  distances, the measure of every combination, the arg-min and the three looked-up blocks of the result). The line is
  written here as a list cut where the mathematics has a name, and every cut comes with the function its operations
  compute, so that the result array is one composed function `refOut` of the argument array.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Host

open Cert.ReferenceIdeal Cert.ReferenceIdeal.Gen Idealize.ShloMosaic Idealize.ShloMosaic.TcCoe Idealize.SL.Sem
open Idealize.ShloMosaic.StableHlo

variable {F : FTy → Type} [FloatOps F]

/-! ## The functions the operations compute -/

/-- The 45 pairs of jets, -/
def pairs : IVec S45x2 32 := fun i => lit0 (S45x2.rowMajor i)
/-- and the 630 combinations of two disjoint pairs. -/
def combos : IVec S630x2 32 := fun i => lit1 (S630x2.rowMajor i)

/-- One momentum component of every jet: component `k` of the array's last axis. -/
def px (x : FVec F S400000x10x4 .f32) : FVec F S400000x10 .f32 :=
  shapeCast _ (extractStridedSlice S400000x10x1 ![0, 0, 1] x slices_S400000x10x4_S400000x10x1_0_0_1) shapeCasts_S400000x10x1_S400000x10
def py (x : FVec F S400000x10x4 .f32) : FVec F S400000x10 .f32 :=
  shapeCast _ (extractStridedSlice S400000x10x1 ![0, 0, 2] x slices_S400000x10x4_S400000x10x1_0_0_2) shapeCasts_S400000x10x1_S400000x10
def pz (x : FVec F S400000x10x4 .f32) : FVec F S400000x10 .f32 :=
  shapeCast _ (extractStridedSlice S400000x10x1 ![0, 0, 3] x slices_S400000x10x4_S400000x10x1_0_0_3) shapeCasts_S400000x10x1_S400000x10

/-- The jets' pseudorapidity, -/
def eta (x : FVec F S400000x10x4 .f32) : FVec F S400000x10 .f32 :=
  Host.asinh (Host.divf (pz x) (Host.sqrt (addf (mulf (px x) (px x)) (mulf (py x) (py x)))))
/-- and their azimuth. -/
def phi (x : FVec F S400000x10x4 .f32) : FVec F S400000x10 .f32 := Host.atan2 (py x) (px x)

/-- An index counted from the end where it is negative. -/
def wrap {s : Shape} (h : S_.BroadcastsInDim s (![] : Fin 0 → Fin s.rank)) (n : BitVec 32) (k : IVec s 32) : IVec s 32 :=
  select (cmpi .slt k (broadcastInDim s ![] h (constantI S_ 32 0#32)))
    (addi k (broadcastInDim s ![] h (constantI S_ 32 n))) k

/-- The first and the second member of every pair, -/
def pair0 (t : IVec S45x2 32) : IVec S45 32 := shapeCast _ (extractStridedSlice S45x1 ![0, 0] t slices_S45x2_S45x1_0_0) shapeCasts_S45x1_S45
def pair1 (t : IVec S45x2 32) : IVec S45 32 := shapeCast _ (extractStridedSlice S45x1 ![0, 1] t slices_S45x2_S45x1_0_1) shapeCasts_S45x1_S45
/-- and of every combination. -/
def combo0 (t : IVec S630x2 32) : IVec S630 32 := shapeCast _ (extractStridedSlice S630x1 ![0, 0] t slices_S630x2_S630x1_0_0) shapeCasts_S630x1_S630
def combo1 (t : IVec S630x2 32) : IVec S630 32 := shapeCast _ (extractStridedSlice S630x1 ![0, 1] t slices_S630x2_S630x1_0_1) shapeCasts_S630x1_S630

/-- The columns `k` of an array of ten columns, -/
def cols10 (x : FVec F S400000x10 .f32) (k : IVec S45 32) : FVec F S400000x45 .f32 :=
  Host.gather gather_S400000x10_S45x1_S400000x45_0_1_n_n_1_1_4000001 x (broadcastInDim S45x1 ![0] bcast_S45_S45x1_0 (wrap bcast_S_S45 10#32 k))
/-- and of one of forty-five. -/
def cols45 (x : FVec F S400000x45 .f32) (k : IVec S630 32) : FVec F S400000x630 .f32 :=
  Host.gather gather_S400000x45_S630x1_S400000x630_0_1_n_n_1_1_4000001 x (broadcastInDim S630x1 ![0] bcast_S630_S630x1_0 (wrap bcast_S_S630 45#32 k))

/-- The pseudorapidity differences of the pairs, -/
def dEta (t : IVec S45x2 32) (e : FVec F S400000x10 .f32) : FVec F S400000x45 .f32 := subf (cols10 e (pair0 t)) (cols10 e (pair1 t))
/-- and the azimuth differences, shifted by π. -/
def dPhiPi (t : IVec S45x2 32) (p : FVec F S400000x10 .f32) : FVec F S400000x45 .f32 :=
  addf (subf (cols10 p (pair0 t)) (cols10 p (pair1 t))) (broadcastInDim S400000x45 ![] bcast_S_S400000x45 (constant S_ .f32 0x40490FDB#32))

/-- A scalar over the array of pairs. -/
def over45 {α : Type} (v : S_.Idx → α) : S400000x45.Idx → α := broadcastInDim S400000x45 ![] bcast_S_S400000x45 v
/-- A scalar over the array of combinations. -/
def over630 {α : Type} (v : S_.Idx → α) : S400000x630.Idx → α := broadcastInDim S400000x630 ![] bcast_S_S400000x630 v

/-- The remainder with the divisor's sign. -/
def modulo (x : FVec F S400000x45 .f32) (y : FVec F S_ .f32) : FVec F S400000x45 .f32 :=
  select (andi (cmpi .ne (cmpf .olt (Host.remf x (over45 y)) (over45 (constant S_ .f32 0x00000000#32)))
      (over45 (cmpf .olt y (constant S_ .f32 0x00000000#32))))
      (cmpf .une (Host.remf x (over45 y)) (over45 (constant S_ .f32 0x00000000#32))))
    (addf (Host.remf x (over45 y)) (over45 y)) (Host.remf x (over45 y))

/-- The pair distance. -/
def dist (de dp : FVec F S400000x45 .f32) : FVec F S400000x45 .f32 :=
  let d := subf (modulo dp (constant S_ .f32 0x40C90FDB#32)) (over45 (constant S_ .f32 0x40490FDB#32))
  Host.sqrt (addf (mulf de de) (mulf d d))

/-- The two distances' deviations of every combination, added, -/
def rawMeasure (t : IVec S630x2 32) (r : FVec F S400000x45 .f32) : FVec F S400000x630 .f32 :=
  addf (Host.absf (subf (cols45 r (combo0 t)) (over630 (constant S_ .f32 0x3F4CCCCD#32))))
    (Host.absf (subf (cols45 r (combo1 t)) (over630 (constant S_ .f32 0x3F4CCCCD#32))))
/-- with infinity in place of what is no number. -/
def measure (t : IVec S630x2 32) (r : FVec F S400000x45 .f32) : FVec F S400000x630 .f32 :=
  select (cmpf .une (rawMeasure t r) (rawMeasure t r)) (over630 (constant S_ .f32 0x7F800000#32)) (rawMeasure t r)

/-- The row's best combination. -/
def best (v : FVec F S400000x630 .f32) : IVec S400000 32 := fun j =>
  (Host.argReduce reducer_argmin_f32_i32 v (iotaInDim S400000x630 32 1) (constant S_ .f32 0x7F800000#32)
    (constantI S_ 32 0#32) reducesTo_S400000x630_S400000_d1 h_S_ j).2

/-- The two pairs of the combination chosen in every row, -/
def chosen (t : IVec S630x2 32) (k : IVec S400000 32) : IVec S400000x2 32 :=
  Host.gather gather_S630x2_S400000x1_S400000x2_1_0_n_n_0_1_12 t
    (broadcastInDim S400000x1 ![0] bcast_S400000_S400000x1_0 (wrap bcast_S_S400000 630#32 k))
/-- and their four jets. -/
def labels (t : IVec S45x2 32) (k : IVec S400000x2 32) : FVec F S400000x4 .f32 :=
  sitofp .f32 (shapeCast _ (Host.gather gather_S45x2_S400000x2x1_S400000x2x2_2_0_n_n_0_2_12 t
    (broadcastInDim S400000x2x1 ![0, 1] bcast_S400000x2_S400000x2x1_0_1 k)) shapeCasts_S400000x2x2_S400000x4)

/-- The distances of the two chosen pairs: the looked-up element where the index is in the row, -/
def takeDr (r : FVec F S400000x45 .f32) (k : IVec S400000x2 32) : FVec F S400000x2 .f32 :=
  let w : IVec S400000x2x1 32 := shapeCast _ (wrap bcast_S_S400000x2 45#32 k) shapeCasts_S400000x2_S400000x2x1
  select (Host.reduce IntOp.andi
      (andi (cmpi .sge w (broadcastInDim S400000x2x1 ![] bcast_S_S400000x2x1 (constantI S_ 32 0#32)))
        (cmpi .sle w (broadcastInDim S400000x2x1 ![0, 1, 2] bcast_S1x1x1_S400000x2x1_0_1_2
          (broadcastInDim S1x1x1 ![2] bcast_S1_S1x1x1_2 (constantI S1 32 44#32)))))
      (constantI S_ 1 1#1) reducesTo_S400000x2x1_S400000x2_d2 h_S_)
    (Host.gather gather_S400000x45_S400000x2x1_S400000x2_n_1_0_0_1_2_11 r w)
    (broadcastInDim S400000x2 ![] bcast_S_S400000x2 (constant S_ .f32 0x7FC00000#32))
/-- and the measure of the chosen combination, alike. -/
def takeM (v : FVec F S400000x630 .f32) (k : IVec S400000 32) : FVec F S400000x1 .f32 :=
  let w : IVec S400000x1x1 32 := shapeCast _ (wrap bcast_S_S400000x1 630#32 (broadcastInDim S400000x1 ![0] bcast_S400000_S400000x1_0 k)) shapeCasts_S400000x1_S400000x1x1
  select (Host.reduce IntOp.andi
      (andi (cmpi .sge w (broadcastInDim S400000x1x1 ![] bcast_S_S400000x1x1 (constantI S_ 32 0#32)))
        (cmpi .sle w (broadcastInDim S400000x1x1 ![0, 1, 2] bcast_S1x1x1_S400000x1x1_0_1_2
          (broadcastInDim S1x1x1 ![2] bcast_S1_S1x1x1_2 (constantI S1 32 629#32)))))
      (constantI S_ 1 1#1) reducesTo_S400000x1x1_S400000x1_d2 h_S_)
    (Host.gather gather_S400000x630_S400000x1x1_S400000x1_n_1_0_0_1_2_11 v w)
    (broadcastInDim S400000x1 ![] bcast_S_S400000x1 (constant S_ .f32 0x7FC00000#32))

/-- The three blocks of the result, side by side. -/
def joined (a : FVec F S400000x4 .f32) (b : FVec F S400000x2 .f32) (c : FVec F S400000x1 .f32) : FVec F S400000x7 .f32 :=
  concatenate S400000x7 1 [⟨S400000x4, a⟩, ⟨S400000x2, b⟩, ⟨S400000x1, c⟩] concatenates_S400000x4_S400000x2_S400000x1_S400000x7_d1

/-- The pair distances of the argument array, -/
def refDist (x : FVec F S400000x10x4 .f32) : FVec F S400000x45 .f32 := dist (dEta pairs (eta x)) (dPhiPi pairs (phi x))
/-- the measure of its combinations, -/
def refMeasure (x : FVec F S400000x10x4 .f32) : FVec F S400000x630 .f32 := measure combos (refDist x)
/-- the best combination of every row, -/
def refBest (x : FVec F S400000x10x4 .f32) : IVec S400000 32 := best (refMeasure x)
/-- its two pairs, -/
def refPairs (x : FVec F S400000x10x4 .f32) : IVec S400000x2 32 := chosen combos (refBest x)
/-- and the result array. -/
def refOut (x : FVec F S400000x10x4 .f32) : FVec F S400000x7 .f32 :=
  joined (labels pairs (wrap bcast_S_S400000x2 45#32 (refPairs x))) (takeDr (refDist x) (refPairs x)) (takeM (refMeasure x) (refBest x))

/-! ## The operations -/

/-- The called remainder: `x` modulo the scalar, with the divisor's sign. -/
def remOps (arg0 : TRef sig ⟨S400000x45, .f32⟩) (arg1 : TRef sig ⟨S_, .f32⟩) (φ : fn_remainder.Bufs) : List (HloOp τ sig (Elt F)) :=
  [ TRef.unary arg1 φ.v0 id,
    TRef.unary φ.v0 φ.v1 (broadcastInDim S400000x45 ![] bcast_S_S400000x45),
    TRef.binary arg0 φ.v1 φ.v2 Host.remf,
    TRef.nullary φ.cst (constant S_ .f32 0x00000000#32),
    TRef.unary φ.cst φ.v3 (broadcastInDim S400000x45 ![] bcast_S_S400000x45),
    TRef.binary φ.v2 φ.v3 φ.v4 (cmpf .une),
    TRef.nullary φ.cst_0 (constant S_ .f32 0x00000000#32),
    TRef.unary φ.cst_0 φ.v5 (broadcastInDim S400000x45 ![] bcast_S_S400000x45),
    TRef.binary φ.v2 φ.v5 φ.v6 (cmpf .olt),
    TRef.nullary φ.cst_1 (constant S_ .f32 0x00000000#32),
    TRef.binary φ.v0 φ.cst_1 φ.v7 (cmpf .olt),
    TRef.unary φ.v7 φ.v8 (broadcastInDim S400000x45 ![] bcast_S_S400000x45),
    TRef.binary φ.v6 φ.v8 φ.v9 (cmpi .ne),
    TRef.binary φ.v9 φ.v4 φ.v10 andi,
    TRef.unary φ.v0 φ.v11 (broadcastInDim S400000x45 ![] bcast_S_S400000x45),
    TRef.binary φ.v2 φ.v11 φ.v12 addf,
    TRef.ternary φ.v10 φ.v12 φ.v2 φ.v13 select ]

/-- The called selection between the array and the scalar. -/
def whereOps (arg0 : TRef sig ⟨S400000x630, .i1⟩) (arg1 : TRef sig ⟨S_, .f32⟩) (arg2 : TRef sig ⟨S400000x630, .f32⟩) (φ : fn_where.Bufs) : List (HloOp τ sig (Elt F)) :=
  [ TRef.unary arg1 φ.v0 id,
    TRef.unary φ.v0 φ.v1 (broadcastInDim S400000x630 ![] bcast_S_S400000x630),
    TRef.ternary arg0 φ.v1 arg2 φ.v2 select ]

/-- The called arg-min along the combinations. -/
def argminOps (arg0 : TRef sig ⟨S400000x630, .f32⟩) (φ : fn_argmin.Bufs) : List (HloOp τ sig (Elt F)) :=
  [ TRef.nullary φ.v0 (iotaInDim S400000x630 32 1),
    TRef.nullary φ.cst (constant S_ .f32 0x7F800000#32),
    TRef.nullary φ.c (constantI S_ 32 0#32),
    TRef.quaternary arg0 φ.v0 φ.cst φ.c φ.v1_0 (fun x y u v j => (Host.argReduce reducer_argmin_f32_i32 x y u v reducesTo_S400000x630_S400000_d1 h_S_ j).1),
    TRef.quaternary arg0 φ.v0 φ.cst φ.c φ.v1_1 (fun x y u v j => (Host.argReduce reducer_argmin_f32_i32 x y u v reducesTo_S400000x630_S400000_d1 h_S_ j).2) ]

/-- The called selection of two pair distances per row. -/
def takeDrOps (arg0 : TRef sig ⟨S400000x45, .f32⟩) (arg1 : TRef sig ⟨S400000x2, .i32⟩) (φ : fn_take_along_axis.Bufs) : List (HloOp τ sig (Elt F)) :=
  [ TRef.nullary φ.c (constantI S_ 32 0#32),
    TRef.unary φ.c φ.v0 (broadcastInDim S400000x2 ![] bcast_S_S400000x2),
    TRef.binary arg1 φ.v0 φ.v1 (cmpi .slt),
    TRef.nullary φ.c_0 (constantI S_ 32 45#32),
    TRef.unary φ.c_0 φ.v2 (broadcastInDim S400000x2 ![] bcast_S_S400000x2),
    TRef.binary arg1 φ.v2 φ.v3 addi,
    TRef.ternary φ.v1 φ.v3 arg1 φ.v4 select,
    TRef.reshape φ.v4 φ.v5 (rfl : (.i32 : EltTy) = .i32) shapeCasts_S400000x2_S400000x2x1,
    TRef.nullary φ.c_1 (constantI S1 32 44#32),
    TRef.nullary φ.c_2 (constantI S_ 32 0#32),
    TRef.unary φ.c_2 φ.v6 (broadcastInDim S400000x2x1 ![] bcast_S_S400000x2x1),
    TRef.binary φ.v5 φ.v6 φ.v7 (cmpi .sge),
    TRef.unary φ.c_1 φ.v8 (broadcastInDim S1x1x1 ![2] bcast_S1_S1x1x1_2),
    TRef.unary φ.v8 φ.v9 (broadcastInDim S400000x2x1 ![0, 1, 2] bcast_S1x1x1_S400000x2x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S400000x2x1_S400000x2_d2 h_S_),
    TRef.binary arg0 φ.v5 φ.v13 (fun x i => Host.gather gather_S400000x45_S400000x2x1_S400000x2_n_1_0_0_1_2_11 x i),
    TRef.nullary φ.cst (constant S_ .f32 0x7FC00000#32),
    TRef.unary φ.cst φ.v14 (broadcastInDim S400000x2 ![] bcast_S_S400000x2),
    TRef.ternary φ.v12 φ.v13 φ.v14 φ.v15 select ]

/-- The called selection of one combination measure per row. -/
def takeMOps (arg0 : TRef sig ⟨S400000x630, .f32⟩) (arg1 : TRef sig ⟨S400000x1, .i32⟩) (φ : fn_take_along_axis_0.Bufs) : List (HloOp τ sig (Elt F)) :=
  [ TRef.nullary φ.c (constantI S_ 32 0#32),
    TRef.unary φ.c φ.v0 (broadcastInDim S400000x1 ![] bcast_S_S400000x1),
    TRef.binary arg1 φ.v0 φ.v1 (cmpi .slt),
    TRef.nullary φ.c_0 (constantI S_ 32 630#32),
    TRef.unary φ.c_0 φ.v2 (broadcastInDim S400000x1 ![] bcast_S_S400000x1),
    TRef.binary arg1 φ.v2 φ.v3 addi,
    TRef.ternary φ.v1 φ.v3 arg1 φ.v4 select,
    TRef.reshape φ.v4 φ.v5 (rfl : (.i32 : EltTy) = .i32) shapeCasts_S400000x1_S400000x1x1,
    TRef.nullary φ.c_1 (constantI S1 32 629#32),
    TRef.nullary φ.c_2 (constantI S_ 32 0#32),
    TRef.unary φ.c_2 φ.v6 (broadcastInDim S400000x1x1 ![] bcast_S_S400000x1x1),
    TRef.binary φ.v5 φ.v6 φ.v7 (cmpi .sge),
    TRef.unary φ.c_1 φ.v8 (broadcastInDim S1x1x1 ![2] bcast_S1_S1x1x1_2),
    TRef.unary φ.v8 φ.v9 (broadcastInDim S400000x1x1 ![0, 1, 2] bcast_S1x1x1_S400000x1x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S400000x1x1_S400000x1_d2 h_S_),
    TRef.binary arg0 φ.v5 φ.v13 (fun x i => Host.gather gather_S400000x630_S400000x1x1_S400000x1_n_1_0_0_1_2_11 x i),
    TRef.nullary φ.cst (constant S_ .f32 0x7FC00000#32),
    TRef.unary φ.cst φ.v14 (broadcastInDim S400000x1 ![] bcast_S_S400000x1),
    TRef.ternary φ.v12 φ.v13 φ.v14 φ.v15 select ]

/-- The two index tables, and every jet's pseudorapidity and azimuth. -/
def anglesOps : List (HloOp τ sig (Elt F)) :=
  [ nullary main_c (fun i => lit0 (S45x2.rowMajor i)),
    nullary main_c_0 (fun i => lit1 (S630x2.rowMajor i)),
    unary main_arg0 main_v0 ((extractStridedSlice S400000x10x1 ![0, 0, 1] · slices_S400000x10x4_S400000x10x1_0_0_1) : FVec F S400000x10x4 .f32 → FVec F S400000x10x1 .f32),
    reshape main_v0 main_v1 (rfl : (.f32 : EltTy) = .f32) shapeCasts_S400000x10x1_S400000x10,
    unary main_arg0 main_v2 ((extractStridedSlice S400000x10x1 ![0, 0, 2] · slices_S400000x10x4_S400000x10x1_0_0_2) : FVec F S400000x10x4 .f32 → FVec F S400000x10x1 .f32),
    reshape main_v2 main_v3 (rfl : (.f32 : EltTy) = .f32) shapeCasts_S400000x10x1_S400000x10,
    unary main_arg0 main_v4 ((extractStridedSlice S400000x10x1 ![0, 0, 3] · slices_S400000x10x4_S400000x10x1_0_0_3) : FVec F S400000x10x4 .f32 → FVec F S400000x10x1 .f32),
    reshape main_v4 main_v5 (rfl : (.f32 : EltTy) = .f32) shapeCasts_S400000x10x1_S400000x10,
    binary main_v1 main_v1 main_v6 (mulf : FVec F S400000x10 .f32 → FVec F S400000x10 .f32 → FVec F S400000x10 .f32),
    binary main_v3 main_v3 main_v7 (mulf : FVec F S400000x10 .f32 → FVec F S400000x10 .f32 → FVec F S400000x10 .f32),
    binary main_v6 main_v7 main_v8 (addf : FVec F S400000x10 .f32 → FVec F S400000x10 .f32 → FVec F S400000x10 .f32),
    unary main_v8 main_v9 (Host.sqrt : FVec F S400000x10 .f32 → FVec F S400000x10 .f32),
    binary main_v5 main_v9 main_v10 (Host.divf : FVec F S400000x10 .f32 → FVec F S400000x10 .f32 → FVec F S400000x10 .f32),
    unary main_v10 main_v11 (Host.asinh : FVec F S400000x10 .f32 → FVec F S400000x10 .f32),
    binary main_v3 main_v1 main_v12 (Host.atan2 : FVec F S400000x10 .f32 → FVec F S400000x10 .f32 → FVec F S400000x10 .f32) ]

/-- The differences of the two angles over the 45 pairs, the azimuth's shifted by π. -/
def deltasOps : List (HloOp τ sig (Elt F)) :=
  [ unary main_c main_v13 ((extractStridedSlice S45x1 ![0, 0] · slices_S45x2_S45x1_0_0) : IVec S45x2 32 → IVec S45x1 32),
    reshape main_v13 main_v14 (rfl : (.i32 : EltTy) = .i32) shapeCasts_S45x1_S45,
    unary main_c main_v15 ((extractStridedSlice S45x1 ![0, 1] · slices_S45x2_S45x1_0_1) : IVec S45x2 32 → IVec S45x1 32),
    reshape main_v15 main_v16 (rfl : (.i32 : EltTy) = .i32) shapeCasts_S45x1_S45,
    nullary main_c_1 (constantI S_ 32 0#32),
    unary main_c_1 main_v17 (broadcastInDim S45 ![] bcast_S_S45 : IVec S_ 32 → IVec S45 32),
    binary main_v14 main_v17 main_v18 (cmpi .slt : IVec S45 32 → IVec S45 32 → IVec S45 1),
    nullary main_c_2 (constantI S_ 32 10#32),
    unary main_c_2 main_v19 (broadcastInDim S45 ![] bcast_S_S45 : IVec S_ 32 → IVec S45 32),
    binary main_v14 main_v19 main_v20 (addi : IVec S45 32 → IVec S45 32 → IVec S45 32),
    ternary main_v18 main_v20 main_v14 main_v21 (select : IVec S45 1 → IVec S45 32 → IVec S45 32 → IVec S45 32),
    unary main_v21 main_v22 (broadcastInDim S45x1 ![0] bcast_S45_S45x1_0 : IVec S45 32 → IVec S45x1 32),
    binary main_v11 main_v22 main_v23 ((fun x i => Host.gather gather_S400000x10_S45x1_S400000x45_0_1_n_n_1_1_4000001 x i) : FVec F S400000x10 .f32 → IVec S45x1 32 → FVec F S400000x45 .f32),
    nullary main_c_3 (constantI S_ 32 0#32),
    unary main_c_3 main_v24 (broadcastInDim S45 ![] bcast_S_S45 : IVec S_ 32 → IVec S45 32),
    binary main_v16 main_v24 main_v25 (cmpi .slt : IVec S45 32 → IVec S45 32 → IVec S45 1),
    nullary main_c_4 (constantI S_ 32 10#32),
    unary main_c_4 main_v26 (broadcastInDim S45 ![] bcast_S_S45 : IVec S_ 32 → IVec S45 32),
    binary main_v16 main_v26 main_v27 (addi : IVec S45 32 → IVec S45 32 → IVec S45 32),
    ternary main_v25 main_v27 main_v16 main_v28 (select : IVec S45 1 → IVec S45 32 → IVec S45 32 → IVec S45 32),
    unary main_v28 main_v29 (broadcastInDim S45x1 ![0] bcast_S45_S45x1_0 : IVec S45 32 → IVec S45x1 32),
    binary main_v11 main_v29 main_v30 ((fun x i => Host.gather gather_S400000x10_S45x1_S400000x45_0_1_n_n_1_1_4000001 x i) : FVec F S400000x10 .f32 → IVec S45x1 32 → FVec F S400000x45 .f32),
    binary main_v23 main_v30 main_v31 (subf : FVec F S400000x45 .f32 → FVec F S400000x45 .f32 → FVec F S400000x45 .f32),
    nullary main_c_5 (constantI S_ 32 0#32),
    unary main_c_5 main_v32 (broadcastInDim S45 ![] bcast_S_S45 : IVec S_ 32 → IVec S45 32),
    binary main_v14 main_v32 main_v33 (cmpi .slt : IVec S45 32 → IVec S45 32 → IVec S45 1),
    nullary main_c_6 (constantI S_ 32 10#32),
    unary main_c_6 main_v34 (broadcastInDim S45 ![] bcast_S_S45 : IVec S_ 32 → IVec S45 32),
    binary main_v14 main_v34 main_v35 (addi : IVec S45 32 → IVec S45 32 → IVec S45 32),
    ternary main_v33 main_v35 main_v14 main_v36 (select : IVec S45 1 → IVec S45 32 → IVec S45 32 → IVec S45 32),
    unary main_v36 main_v37 (broadcastInDim S45x1 ![0] bcast_S45_S45x1_0 : IVec S45 32 → IVec S45x1 32),
    binary main_v12 main_v37 main_v38 ((fun x i => Host.gather gather_S400000x10_S45x1_S400000x45_0_1_n_n_1_1_4000001 x i) : FVec F S400000x10 .f32 → IVec S45x1 32 → FVec F S400000x45 .f32),
    nullary main_c_7 (constantI S_ 32 0#32),
    unary main_c_7 main_v39 (broadcastInDim S45 ![] bcast_S_S45 : IVec S_ 32 → IVec S45 32),
    binary main_v16 main_v39 main_v40 (cmpi .slt : IVec S45 32 → IVec S45 32 → IVec S45 1),
    nullary main_c_8 (constantI S_ 32 10#32),
    unary main_c_8 main_v41 (broadcastInDim S45 ![] bcast_S_S45 : IVec S_ 32 → IVec S45 32),
    binary main_v16 main_v41 main_v42 (addi : IVec S45 32 → IVec S45 32 → IVec S45 32),
    ternary main_v40 main_v42 main_v16 main_v43 (select : IVec S45 1 → IVec S45 32 → IVec S45 32 → IVec S45 32),
    unary main_v43 main_v44 (broadcastInDim S45x1 ![0] bcast_S45_S45x1_0 : IVec S45 32 → IVec S45x1 32),
    binary main_v12 main_v44 main_v45 ((fun x i => Host.gather gather_S400000x10_S45x1_S400000x45_0_1_n_n_1_1_4000001 x i) : FVec F S400000x10 .f32 → IVec S45x1 32 → FVec F S400000x45 .f32),
    binary main_v38 main_v45 main_v46 (subf : FVec F S400000x45 .f32 → FVec F S400000x45 .f32 → FVec F S400000x45 .f32),
    nullary main_cst (constant S_ .f32 0x40490FDB#32),
    unary main_cst main_v47 (broadcastInDim S400000x45 ![] bcast_S_S400000x45 : FVec F S_ .f32 → FVec F S400000x45 .f32),
    binary main_v46 main_v47 main_v48 (addf : FVec F S400000x45 .f32 → FVec F S400000x45 .f32 → FVec F S400000x45 .f32) ]

/-- The azimuth difference wrapped, and the pair distance. -/
def distOps : List (HloOp τ sig (Elt F)) :=
  [ nullary main_cst_9 (constant S_ .f32 0x40C90FDB#32) ]
  ++ (remOps (.of main_v48) (.of main_cst_9) main_call0
  ++ [ nullary main_cst_10 (constant S_ .f32 0x40490FDB#32),
    unary main_cst_10 main_v50 (broadcastInDim S400000x45 ![] bcast_S_S400000x45 : FVec F S_ .f32 → FVec F S400000x45 .f32),
    binary main_v49 main_v50 main_v51 (subf : FVec F S400000x45 .f32 → FVec F S400000x45 .f32 → FVec F S400000x45 .f32),
    binary main_v31 main_v31 main_v52 (mulf : FVec F S400000x45 .f32 → FVec F S400000x45 .f32 → FVec F S400000x45 .f32),
    binary main_v51 main_v51 main_v53 (mulf : FVec F S400000x45 .f32 → FVec F S400000x45 .f32 → FVec F S400000x45 .f32),
    binary main_v52 main_v53 main_v54 (addf : FVec F S400000x45 .f32 → FVec F S400000x45 .f32 → FVec F S400000x45 .f32),
    unary main_v54 main_v55 (Host.sqrt : FVec F S400000x45 .f32 → FVec F S400000x45 .f32) ])

/-- The measure of the 630 combinations of disjoint pairs. -/
def measureOps : List (HloOp τ sig (Elt F)) :=
  [ unary main_c_0 main_v56 ((extractStridedSlice S630x1 ![0, 0] · slices_S630x2_S630x1_0_0) : IVec S630x2 32 → IVec S630x1 32),
    reshape main_v56 main_v57 (rfl : (.i32 : EltTy) = .i32) shapeCasts_S630x1_S630,
    nullary main_c_11 (constantI S_ 32 0#32),
    unary main_c_11 main_v58 (broadcastInDim S630 ![] bcast_S_S630 : IVec S_ 32 → IVec S630 32),
    binary main_v57 main_v58 main_v59 (cmpi .slt : IVec S630 32 → IVec S630 32 → IVec S630 1),
    nullary main_c_12 (constantI S_ 32 45#32),
    unary main_c_12 main_v60 (broadcastInDim S630 ![] bcast_S_S630 : IVec S_ 32 → IVec S630 32),
    binary main_v57 main_v60 main_v61 (addi : IVec S630 32 → IVec S630 32 → IVec S630 32),
    ternary main_v59 main_v61 main_v57 main_v62 (select : IVec S630 1 → IVec S630 32 → IVec S630 32 → IVec S630 32),
    unary main_v62 main_v63 (broadcastInDim S630x1 ![0] bcast_S630_S630x1_0 : IVec S630 32 → IVec S630x1 32),
    binary main_v55 main_v63 main_v64 ((fun x i => Host.gather gather_S400000x45_S630x1_S400000x630_0_1_n_n_1_1_4000001 x i) : FVec F S400000x45 .f32 → IVec S630x1 32 → FVec F S400000x630 .f32),
    nullary main_cst_13 (constant S_ .f32 0x3F4CCCCD#32),
    unary main_cst_13 main_v65 (broadcastInDim S400000x630 ![] bcast_S_S400000x630 : FVec F S_ .f32 → FVec F S400000x630 .f32),
    binary main_v64 main_v65 main_v66 (subf : FVec F S400000x630 .f32 → FVec F S400000x630 .f32 → FVec F S400000x630 .f32),
    unary main_v66 main_v67 (Host.absf : FVec F S400000x630 .f32 → FVec F S400000x630 .f32),
    unary main_c_0 main_v68 ((extractStridedSlice S630x1 ![0, 1] · slices_S630x2_S630x1_0_1) : IVec S630x2 32 → IVec S630x1 32),
    reshape main_v68 main_v69 (rfl : (.i32 : EltTy) = .i32) shapeCasts_S630x1_S630,
    nullary main_c_14 (constantI S_ 32 0#32),
    unary main_c_14 main_v70 (broadcastInDim S630 ![] bcast_S_S630 : IVec S_ 32 → IVec S630 32),
    binary main_v69 main_v70 main_v71 (cmpi .slt : IVec S630 32 → IVec S630 32 → IVec S630 1),
    nullary main_c_15 (constantI S_ 32 45#32),
    unary main_c_15 main_v72 (broadcastInDim S630 ![] bcast_S_S630 : IVec S_ 32 → IVec S630 32),
    binary main_v69 main_v72 main_v73 (addi : IVec S630 32 → IVec S630 32 → IVec S630 32),
    ternary main_v71 main_v73 main_v69 main_v74 (select : IVec S630 1 → IVec S630 32 → IVec S630 32 → IVec S630 32),
    unary main_v74 main_v75 (broadcastInDim S630x1 ![0] bcast_S630_S630x1_0 : IVec S630 32 → IVec S630x1 32),
    binary main_v55 main_v75 main_v76 ((fun x i => Host.gather gather_S400000x45_S630x1_S400000x630_0_1_n_n_1_1_4000001 x i) : FVec F S400000x45 .f32 → IVec S630x1 32 → FVec F S400000x630 .f32),
    nullary main_cst_16 (constant S_ .f32 0x3F4CCCCD#32),
    unary main_cst_16 main_v77 (broadcastInDim S400000x630 ![] bcast_S_S400000x630 : FVec F S_ .f32 → FVec F S400000x630 .f32),
    binary main_v76 main_v77 main_v78 (subf : FVec F S400000x630 .f32 → FVec F S400000x630 .f32 → FVec F S400000x630 .f32),
    unary main_v78 main_v79 (Host.absf : FVec F S400000x630 .f32 → FVec F S400000x630 .f32),
    binary main_v67 main_v79 main_v80 (addf : FVec F S400000x630 .f32 → FVec F S400000x630 .f32 → FVec F S400000x630 .f32),
    binary main_v80 main_v80 main_v81 (cmpf .une : FVec F S400000x630 .f32 → FVec F S400000x630 .f32 → IVec S400000x630 1),
    nullary main_cst_17 (constant S_ .f32 0x7F800000#32) ]
  ++ whereOps (.of main_v81) (.of main_cst_17) (.of main_v80) main_call1

/-- The best combination of every row, and its two pairs. -/
def pickOps : List (HloOp τ sig (Elt F)) :=
  argminOps (.of main_v82) main_call2
  ++ [ nullary main_c_18 (constantI S_ 32 0#32),
    unary main_c_18 main_v84 (broadcastInDim S400000 ![] bcast_S_S400000 : IVec S_ 32 → IVec S400000 32),
    binary main_v83 main_v84 main_v85 (cmpi .slt : IVec S400000 32 → IVec S400000 32 → IVec S400000 1),
    nullary main_c_19 (constantI S_ 32 630#32),
    unary main_c_19 main_v86 (broadcastInDim S400000 ![] bcast_S_S400000 : IVec S_ 32 → IVec S400000 32),
    binary main_v83 main_v86 main_v87 (addi : IVec S400000 32 → IVec S400000 32 → IVec S400000 32),
    ternary main_v85 main_v87 main_v83 main_v88 (select : IVec S400000 1 → IVec S400000 32 → IVec S400000 32 → IVec S400000 32),
    unary main_v88 main_v89 (broadcastInDim S400000x1 ![0] bcast_S400000_S400000x1_0 : IVec S400000 32 → IVec S400000x1 32),
    binary main_c_0 main_v89 main_v90 ((fun x i => Host.gather gather_S630x2_S400000x1_S400000x2_1_0_n_n_0_1_12 x i) : IVec S630x2 32 → IVec S400000x1 32 → IVec S400000x2 32) ]

/-- The chosen pairs as row numbers of the pair table. -/
def wrapOps : List (HloOp τ sig (Elt F)) :=
  [ nullary main_c_20 (constantI S_ 32 0#32),
    unary main_c_20 main_v91 (broadcastInDim S400000x2 ![] bcast_S_S400000x2 : IVec S_ 32 → IVec S400000x2 32),
    binary main_v90 main_v91 main_v92 (cmpi .slt : IVec S400000x2 32 → IVec S400000x2 32 → IVec S400000x2 1),
    nullary main_c_21 (constantI S_ 32 45#32),
    unary main_c_21 main_v93 (broadcastInDim S400000x2 ![] bcast_S_S400000x2 : IVec S_ 32 → IVec S400000x2 32),
    binary main_v90 main_v93 main_v94 (addi : IVec S400000x2 32 → IVec S400000x2 32 → IVec S400000x2 32),
    ternary main_v92 main_v94 main_v90 main_v95 (select : IVec S400000x2 1 → IVec S400000x2 32 → IVec S400000x2 32 → IVec S400000x2 32) ]

/-- The labels, -/
def labelOps : List (HloOp τ sig (Elt F)) :=
  [ unary main_v95 main_v96 (broadcastInDim S400000x2x1 ![0, 1] bcast_S400000x2_S400000x2x1_0_1 : IVec S400000x2 32 → IVec S400000x2x1 32),
    binary main_c main_v96 main_v97 ((fun x i => Host.gather gather_S45x2_S400000x2x1_S400000x2x2_2_0_n_n_0_2_12 x i) : IVec S45x2 32 → IVec S400000x2x1 32 → IVec S400000x2x2 32),
    reshape main_v97 main_v98 (rfl : (.i32 : EltTy) = .i32) shapeCasts_S400000x2x2_S400000x4,
    unary main_v98 main_v99 (sitofp .f32 : IVec S400000x4 32 → FVec F S400000x4 .f32) ]
/-- the two distances, -/
def takenDrOps : List (HloOp τ sig (Elt F)) := takeDrOps (.of main_v55) (.of main_v90) main_call3
/-- the measure, -/
def takenMOps : List (HloOp τ sig (Elt F)) :=
  [ unary main_v83 main_v101 (broadcastInDim S400000x1 ![0] bcast_S400000_S400000x1_0 : IVec S400000 32 → IVec S400000x1 32) ]
  ++ takeMOps (.of main_v82) (.of main_v101) main_call4
/-- and the three, joined. -/
def joinOps : List (HloOp τ sig (Elt F)) :=
  [ nary ![main_v99, main_v100, main_v102] main_v103 (fun u => joined (F := F) (u 0) (u 1) (u 2)) ]

/-- The whole line. -/
abbrev ops : List (HloOp τ sig (Elt F)) :=
  anglesOps ++ (deltasOps ++ (distOps ++ (measureOps ++ (pickOps ++ (wrapOps ++ (labelOps ++ (takenDrOps ++ (takenMOps ++ joinOps))))))))

set_option maxRecDepth 8192 in
set_option maxHeartbeats 4000000 in
theorem main_part0_eq (c : Dev nD) : main_part0 (F := F) c = seq (anglesOps ++ deltasOps) := rfl
set_option maxRecDepth 8192 in
set_option maxHeartbeats 4000000 in
theorem main_part1_eq (c : Dev nD) : main_part1 (F := F) c = seq (distOps ++ (measureOps ++ (pickOps ++ wrapOps))) := rfl
set_option maxRecDepth 8192 in
set_option maxHeartbeats 4000000 in
theorem main_part2_eq (c : Dev nD) : main_part2 (F := F) c = seq (labelOps ++ (takenDrOps ++ (takenMOps ++ joinOps))) := rfl

set_option maxRecDepth 8192 in
/-- The reference's main program is the line. -/
theorem main_eq (c : Dev nD) : main (F := F) c = seq ops := by
  have e : (ops : List (HloOp τ sig (Elt F))) = (anglesOps ++ deltasOps) ++ ((distOps ++ (measureOps ++ (pickOps ++ wrapOps))) ++ (labelOps ++ (takenDrOps ++ (takenMOps ++ joinOps)))) := rfl
  rw [e, seq_append (anglesOps ++ deltasOps), seq_append (distOps ++ (measureOps ++ (pickOps ++ wrapOps))), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
theorem ops_sub : (ops : List (HloOp τ sig (Elt F))).Forall fun op => op.bufs ⊆ tcRefs τ sig := by
  simp only [ops, anglesOps, deltasOps, distOps, measureOps, pickOps, wrapOps, labelOps, takenDrOps, takenMOps, joinOps, remOps, whereOps, argminOps, takeDrOps, takeMOps,
    List.cons_append, List.nil_append, List.Forall]
  simp only [TRef.nullary, TRef.unary, TRef.binary, TRef.ternary, TRef.quaternary, TRef.reshape, nullary_bufs_sub, unary_bufs_sub,
    binary_bufs_sub, ternary_bufs_sub, quaternary_bufs_sub, reshape_bufs_sub, nary_bufs_sub, and_self]

set_option maxRecDepth 8192 in
set_option maxHeartbeats 4000000 in
theorem ops_fresh : ∀ op ∈ (ops : List (HloOp τ sig (Elt F))), op.fresh = ∅ :=
  List.forall_iff_forall_mem.mp (by
    simp only [ops, anglesOps, deltasOps, distOps, measureOps, pickOps, wrapOps, labelOps, takenDrOps, takenMOps, joinOps, remOps, whereOps, argminOps, takeDrOps, takeMOps,
      List.cons_append, List.nil_append, List.Forall]
    repeat' constructor)

/-! ## What every cut leaves -/

section
variable (V : Valuation τ sig (Elt F))

set_option maxRecDepth 8192 in
set_option maxHeartbeats 4000000 in
theorem anglesOps_main_c : after anglesOps V (Proc.devRef .tc main_c) = pairs := by
  simp only [anglesOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem anglesOps_main_c_0 : after anglesOps V (Proc.devRef .tc main_c_0) = combos := by
  simp only [anglesOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem anglesOps_main_v11 : after anglesOps V (Proc.devRef .tc main_v11) = eta (V (Proc.devRef .tc main_arg0)) := by
  simp only [anglesOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem anglesOps_main_v12 : after anglesOps V (Proc.devRef .tc main_v12) = phi (V (Proc.devRef .tc main_arg0)) := by
  simp only [anglesOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem anglesOps_kept :
    after anglesOps V (Proc.devRef .tc main_arg0) = V (Proc.devRef .tc main_arg0) := by
  simp only [anglesOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem deltasOps_main_v31 : after deltasOps V (Proc.devRef .tc main_v31) = dEta (V (Proc.devRef .tc main_c)) (V (Proc.devRef .tc main_v11)) := by
  simp only [deltasOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem deltasOps_main_v48 : after deltasOps V (Proc.devRef .tc main_v48) = dPhiPi (V (Proc.devRef .tc main_c)) (V (Proc.devRef .tc main_v12)) := by
  simp only [deltasOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem deltasOps_kept :
    after deltasOps V (Proc.devRef .tc main_arg0) = V (Proc.devRef .tc main_arg0)
    ∧ after deltasOps V (Proc.devRef .tc main_c) = V (Proc.devRef .tc main_c)
    ∧ after deltasOps V (Proc.devRef .tc main_c_0) = V (Proc.devRef .tc main_c_0) := by
  simp only [deltasOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem distOps_main_v55 : after distOps V (Proc.devRef .tc main_v55) = dist (V (Proc.devRef .tc main_v31)) (V (Proc.devRef .tc main_v48)) := by
  simp only [distOps, remOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem distOps_kept :
    after distOps V (Proc.devRef .tc main_arg0) = V (Proc.devRef .tc main_arg0)
    ∧ after distOps V (Proc.devRef .tc main_c) = V (Proc.devRef .tc main_c)
    ∧ after distOps V (Proc.devRef .tc main_c_0) = V (Proc.devRef .tc main_c_0) := by
  simp only [distOps, remOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem measureOps_main_v82 : after measureOps V (Proc.devRef .tc main_v82) = measure (V (Proc.devRef .tc main_c_0)) (V (Proc.devRef .tc main_v55)) := by
  simp only [measureOps, whereOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem measureOps_kept :
    after measureOps V (Proc.devRef .tc main_arg0) = V (Proc.devRef .tc main_arg0)
    ∧ after measureOps V (Proc.devRef .tc main_c) = V (Proc.devRef .tc main_c)
    ∧ after measureOps V (Proc.devRef .tc main_c_0) = V (Proc.devRef .tc main_c_0)
    ∧ after measureOps V (Proc.devRef .tc main_v55) = V (Proc.devRef .tc main_v55) := by
  simp only [measureOps, whereOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem pickOps_main_v83 : after pickOps V (Proc.devRef .tc main_v83) = best (V (Proc.devRef .tc main_v82)) := by
  simp only [pickOps, argminOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem pickOps_main_v90 : after pickOps V (Proc.devRef .tc main_v90) = chosen (V (Proc.devRef .tc main_c_0)) (best (V (Proc.devRef .tc main_v82))) := by
  simp only [pickOps, argminOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem pickOps_kept :
    after pickOps V (Proc.devRef .tc main_arg0) = V (Proc.devRef .tc main_arg0)
    ∧ after pickOps V (Proc.devRef .tc main_c) = V (Proc.devRef .tc main_c)
    ∧ after pickOps V (Proc.devRef .tc main_v55) = V (Proc.devRef .tc main_v55)
    ∧ after pickOps V (Proc.devRef .tc main_v82) = V (Proc.devRef .tc main_v82) := by
  simp only [pickOps, argminOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem wrapOps_main_v95 : after wrapOps V (Proc.devRef .tc main_v95) = wrap bcast_S_S400000x2 45#32 (V (Proc.devRef .tc main_v90)) := by
  simp only [wrapOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem wrapOps_kept :
    after wrapOps V (Proc.devRef .tc main_arg0) = V (Proc.devRef .tc main_arg0)
    ∧ after wrapOps V (Proc.devRef .tc main_c) = V (Proc.devRef .tc main_c)
    ∧ after wrapOps V (Proc.devRef .tc main_v55) = V (Proc.devRef .tc main_v55)
    ∧ after wrapOps V (Proc.devRef .tc main_v82) = V (Proc.devRef .tc main_v82)
    ∧ after wrapOps V (Proc.devRef .tc main_v83) = V (Proc.devRef .tc main_v83)
    ∧ after wrapOps V (Proc.devRef .tc main_v90) = V (Proc.devRef .tc main_v90) := by
  simp only [wrapOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem labelOps_main_v99 : after labelOps V (Proc.devRef .tc main_v99) = labels (V (Proc.devRef .tc main_c)) (V (Proc.devRef .tc main_v95)) := by
  simp only [labelOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem labelOps_kept :
    after labelOps V (Proc.devRef .tc main_arg0) = V (Proc.devRef .tc main_arg0)
    ∧ after labelOps V (Proc.devRef .tc main_v55) = V (Proc.devRef .tc main_v55)
    ∧ after labelOps V (Proc.devRef .tc main_v82) = V (Proc.devRef .tc main_v82)
    ∧ after labelOps V (Proc.devRef .tc main_v83) = V (Proc.devRef .tc main_v83)
    ∧ after labelOps V (Proc.devRef .tc main_v90) = V (Proc.devRef .tc main_v90) := by
  simp only [labelOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem takenDrOps_main_v100 : after takenDrOps V (Proc.devRef .tc main_v100) = takeDr (V (Proc.devRef .tc main_v55)) (V (Proc.devRef .tc main_v90)) := by
  simp only [takenDrOps, takeDrOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem takenDrOps_kept :
    after takenDrOps V (Proc.devRef .tc main_arg0) = V (Proc.devRef .tc main_arg0)
    ∧ after takenDrOps V (Proc.devRef .tc main_v99) = V (Proc.devRef .tc main_v99)
    ∧ after takenDrOps V (Proc.devRef .tc main_v82) = V (Proc.devRef .tc main_v82)
    ∧ after takenDrOps V (Proc.devRef .tc main_v83) = V (Proc.devRef .tc main_v83) := by
  simp only [takenDrOps, takeDrOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem takenMOps_main_v102 : after takenMOps V (Proc.devRef .tc main_v102) = takeM (V (Proc.devRef .tc main_v82)) (V (Proc.devRef .tc main_v83)) := by
  simp only [takenMOps, takeMOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem takenMOps_kept :
    after takenMOps V (Proc.devRef .tc main_arg0) = V (Proc.devRef .tc main_arg0)
    ∧ after takenMOps V (Proc.devRef .tc main_v99) = V (Proc.devRef .tc main_v99)
    ∧ after takenMOps V (Proc.devRef .tc main_v100) = V (Proc.devRef .tc main_v100) := by
  simp only [takenMOps, takeMOps, List.cons_append, List.nil_append, TRef.nullary, TRef.unary, TRef.binary, TRef.ternary, TRef.quaternary, TRef.reshape, TRef.toBuf, TRef.ofBuf, cast_eq]
  after_results_simp
  all_goals simp only [and_self]

set_option maxRecDepth 8192 in
set_option maxHeartbeats 4000000 in
theorem joinOps_main_v103 : after joinOps V (Proc.devRef .tc main_v103) = joined (V (Proc.devRef .tc main_v99)) (V (Proc.devRef .tc main_v100)) (V (Proc.devRef .tc main_v102)) := by
  simp only [joinOps, List.cons_append, List.nil_append, TRef.nullary, TRef.unary, TRef.binary, TRef.ternary, TRef.quaternary, TRef.reshape, TRef.toBuf, TRef.ofBuf, cast_eq]
  after_results_simp
  all_goals rfl

set_option maxRecDepth 8192 in
set_option maxHeartbeats 4000000 in
theorem joinOps_kept :
    after joinOps V (Proc.devRef .tc main_arg0) = V (Proc.devRef .tc main_arg0) := by
  simp only [joinOps, List.cons_append, List.nil_append, TRef.nullary, TRef.unary, TRef.binary, TRef.ternary, TRef.quaternary, TRef.reshape, TRef.toBuf, TRef.ofBuf, cast_eq]
  after_results_simp
  all_goals simp only [and_self]

end

/-- The argument's buffer after the line, -/
theorem after_arg (V : Valuation τ sig (Elt F)) : after ops V (Proc.devRef .tc main_arg0) = V (Proc.devRef .tc main_arg0) := by
  simp only [ops, after_append]
  rw [joinOps_kept, (takenMOps_kept _).1, (takenDrOps_kept _).1, (labelOps_kept _).1, (wrapOps_kept _).1, (pickOps_kept _).1, (measureOps_kept _).1, (distOps_kept _).1, (deltasOps_kept _).1, anglesOps_kept]

/-- and the result's. -/
theorem after_out (V : Valuation τ sig (Elt F)) :
    after ops V (Proc.devRef .tc main_v103) = refOut (V (Proc.devRef .tc main_arg0)) := by
  simp only [ops, after_append]
  rw [joinOps_main_v103, takenMOps_main_v102]
  obtain ⟨-, t99, t100⟩ := takenMOps_kept (after takenDrOps (after labelOps (after wrapOps (after pickOps (after measureOps (after distOps (after deltasOps (after anglesOps V))))))))
  rw [t99, t100, takenDrOps_main_v100]
  obtain ⟨-, u99, u82, u83⟩ := takenDrOps_kept (after labelOps (after wrapOps (after pickOps (after measureOps (after distOps (after deltasOps (after anglesOps V)))))))
  rw [u99, u82, u83, labelOps_main_v99]
  obtain ⟨-, l55, l82, l83, l90⟩ := labelOps_kept (after wrapOps (after pickOps (after measureOps (after distOps (after deltasOps (after anglesOps V))))))
  rw [l55, l82, l83, l90, wrapOps_main_v95]
  obtain ⟨-, wc, w55, w82, w83, w90⟩ := wrapOps_kept (after pickOps (after measureOps (after distOps (after deltasOps (after anglesOps V)))))
  rw [wc, w55, w82, w83, w90, pickOps_main_v83, pickOps_main_v90]
  obtain ⟨-, pc, p55, p82⟩ := pickOps_kept (after measureOps (after distOps (after deltasOps (after anglesOps V))))
  rw [pc, p55, p82, measureOps_main_v82]
  obtain ⟨-, mc, mc0, m55⟩ := measureOps_kept (after distOps (after deltasOps (after anglesOps V)))
  rw [mc, mc0, m55, distOps_main_v55]
  obtain ⟨-, dc, dc0⟩ := distOps_kept (after deltasOps (after anglesOps V))
  rw [dc, dc0, deltasOps_main_v31, deltasOps_main_v48]
  obtain ⟨-, ec, ec0⟩ := deltasOps_kept (after anglesOps V)
  rw [ec, ec0, anglesOps_main_c, anglesOps_main_c_0, anglesOps_main_v11, anglesOps_main_v12]
  rfl

/-- The reference's run: the result array holds `refOut` of the argument array, which is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v103).trans (after_out (launchContents m c)),
      (h c main_arg0).trans (after_arg (launchContents m c))⟩)
    (run_seq scopedRefs_eq scopedSems_eq defs main (fun _ => ops) main_eq (fun _ => ops_sub) m ρ fun _ => ops_fresh)

end Cert.ReferenceIdeal.Host

end
-- ==== Proof.RefGather.lean ====
/-
  The reference's gathers read at an index: each is a lookup, of columns named once for every row, of a table's rows, or of
  one element of the row itself.
-/
module

public import proofs.«01_k».proof.Proof.RefRun
public import Idealize.ShloMosaic.Lib.Pointwise

@[expose] public section

set_option maxRecDepth 16384

noncomputable section

namespace Cert.ReferenceIdeal.Gather

open Cert.ReferenceIdeal Cert.ReferenceIdeal.Gen Idealize.ShloMosaic

section
variable {α : Type}

/-- A small natural number's word, read as a signed integer and clamped. -/
theorem clamp {k : BitVec 32} {n a : Nat} (ha : a < n) (hn : n ≤ 2 ^ 31) (hk : k = BitVec.ofNat 32 a) : min k.toInt.toNat (n - 1) = a := by
  subst hk
  rw [BitVec.toInt_eq_toNat_of_lt (by rw [BitVec.toNat_ofNat, Nat.mod_eq_of_lt (by omega)]; omega), BitVec.toNat_ofNat,
    Nat.mod_eq_of_lt (by omega), Int.toNat_natCast]
  omega

/-- The columns of an array, one index for every column of the result. -/
abbrev colDims (N n m : Nat) (wf : GatherDims.WF ⟨2, ![N, n]⟩ ⟨2, ![m, 1]⟩ ⟨2, ![N, m]⟩ [0] [1] [] [1] [] 1 ![N, 1]) :
    GatherDims ⟨2, ![N, n]⟩ ⟨2, ![m, 1]⟩ ⟨2, ![N, m]⟩ where
  offsetDims := [0]
  collapsedSliceDims := [1]
  operandBatchingDims := []
  startIndicesBatchingDims := []
  startIndexMap := [1]
  indexVectorDim := 1
  sliceSizes := ![N, 1]
  wf := wf

theorem col_apply {N n m : Nat} (wf) (x : (⟨2, ![N, n]⟩ : Shape).Idx → α) (k : IVec ⟨2, ![m, 1]⟩ 32) (i : Fin N) (c : Fin m) (a : Fin n)
    (hn : n ≤ 2 ^ 31) (hk : k (ix2 c 0) = BitVec.ofNat 32 a) : Host.gather (colDims N n m wf) x k (ix2 i c) = x (ix2 i a) := by
  unfold Host.gather
  congr 1
  refine funext (Fin.forall_fin_two.mpr ⟨Fin.ext ?_, Fin.ext ?_⟩)
  · show (colDims N n m wf).start (ix2 i c) k 0 + (colDims N n m wf).batchCoord (ix2 i c) 0 + (colDims N n m wf).offCoord (ix2 i c) 0 = _
    rw [GatherDims.batchCoord_eq_zero _ _ _ List.not_mem_nil]
    unfold GatherDims.start
    rw [dif_neg (by decide : (0 : Fin 2) ∉ [(1 : Fin 2)])]
    show 0 + 0 + i.val = i.val
    omega
  · show (colDims N n m wf).start (ix2 i c) k 1 + (colDims N n m wf).batchCoord (ix2 i c) 1 + (colDims N n m wf).offCoord (ix2 i c) 1 = _
    rw [GatherDims.batchCoord_eq_zero _ _ _ List.not_mem_nil]
    rw [GatherDims.offCoord_eq_zero _ _ _ (fun h => ((GatherDims.mem_sKept _ _).mp h).1 (by decide : (1 : Fin 2) ∈ [(1 : Fin 2)]))]
    unfold GatherDims.start
    rw [dif_pos (by decide : (1 : Fin 2) ∈ [(1 : Fin 2)])]
    have hsi : (colDims N n m wf).siIdx (ix2 i c) ⟨List.idxOf (1 : Fin 2) (colDims N n m wf).startIndexMap,
        List.idxOf_lt_length_iff.2 (by decide : (1 : Fin 2) ∈ [(1 : Fin 2)])⟩ = ix2 c 0 := by
      funext e; refine Fin.ext ?_
      match e with
      | ⟨0, _⟩ => rfl
      | ⟨1, _⟩ => rfl
    exact clamp a.isLt hn ((congrArg k hsi).trans hk)

/-- The rows of a table of pairs, one index for every row of the result. -/
abbrev rowDims (n N : Nat) (wf : GatherDims.WF ⟨2, ![n, 2]⟩ ⟨2, ![N, 1]⟩ ⟨2, ![N, 2]⟩ [1] [0] [] [0] [] 1 ![1, 2]) :
    GatherDims ⟨2, ![n, 2]⟩ ⟨2, ![N, 1]⟩ ⟨2, ![N, 2]⟩ where
  offsetDims := [1]
  collapsedSliceDims := [0]
  operandBatchingDims := []
  startIndicesBatchingDims := []
  startIndexMap := [0]
  indexVectorDim := 1
  sliceSizes := ![1, 2]
  wf := wf

theorem row_apply {n N : Nat} (wf) (x : (⟨2, ![n, 2]⟩ : Shape).Idx → α) (k : IVec ⟨2, ![N, 1]⟩ 32) (i : Fin N) (e : Fin 2) (a : Fin n)
    (hn : n ≤ 2 ^ 31) (hk : k (ix2 i 0) = BitVec.ofNat 32 a) : Host.gather (rowDims n N wf) x k (ix2 i e) = x (ix2 a e) := by
  unfold Host.gather
  congr 1
  refine funext (Fin.forall_fin_two.mpr ⟨Fin.ext ?_, Fin.ext ?_⟩)
  · show (rowDims n N wf).start (ix2 i e) k 0 + (rowDims n N wf).batchCoord (ix2 i e) 0 + (rowDims n N wf).offCoord (ix2 i e) 0 = _
    rw [GatherDims.batchCoord_eq_zero _ _ _ List.not_mem_nil]
    rw [GatherDims.offCoord_eq_zero _ _ _ (fun h => ((GatherDims.mem_sKept _ _).mp h).1 (by decide : (0 : Fin 2) ∈ [(0 : Fin 2)]))]
    unfold GatherDims.start
    rw [dif_pos (by decide : (0 : Fin 2) ∈ [(0 : Fin 2)])]
    have hsi : (rowDims n N wf).siIdx (ix2 i e) ⟨List.idxOf (0 : Fin 2) (rowDims n N wf).startIndexMap,
        List.idxOf_lt_length_iff.2 (by decide : (0 : Fin 2) ∈ [(0 : Fin 2)])⟩ = ix2 i 0 := by
      funext f; refine Fin.ext ?_
      match f with
      | ⟨0, _⟩ => rfl
      | ⟨1, _⟩ => rfl
    exact clamp a.isLt hn ((congrArg k hsi).trans hk)
  · show (rowDims n N wf).start (ix2 i e) k 1 + (rowDims n N wf).batchCoord (ix2 i e) 1 + (rowDims n N wf).offCoord (ix2 i e) 1 = _
    rw [GatherDims.batchCoord_eq_zero _ _ _ List.not_mem_nil]
    unfold GatherDims.start
    rw [dif_neg (by decide : (1 : Fin 2) ∉ [(0 : Fin 2)])]
    show 0 + 0 + e.val = e.val
    omega

/-- The rows of a table of pairs, two indices for every row of the result. -/
abbrev rowsDims (n N : Nat) (wf : GatherDims.WF ⟨2, ![n, 2]⟩ ⟨3, ![N, 2, 1]⟩ ⟨3, ![N, 2, 2]⟩ [2] [0] [] [0] [] 2 ![1, 2]) :
    GatherDims ⟨2, ![n, 2]⟩ ⟨3, ![N, 2, 1]⟩ ⟨3, ![N, 2, 2]⟩ where
  offsetDims := [2]
  collapsedSliceDims := [0]
  operandBatchingDims := []
  startIndicesBatchingDims := []
  startIndexMap := [0]
  indexVectorDim := 2
  sliceSizes := ![1, 2]
  wf := wf

theorem rows_apply {n N : Nat} (wf) (x : (⟨2, ![n, 2]⟩ : Shape).Idx → α) (k : IVec ⟨3, ![N, 2, 1]⟩ 32) (i : Fin N) (g e : Fin 2) (a : Fin n)
    (hn : n ≤ 2 ^ 31) (hk : k (ix3 i g 0) = BitVec.ofNat 32 a) : Host.gather (rowsDims n N wf) x k (ix3 i g e) = x (ix2 a e) := by
  unfold Host.gather
  congr 1
  refine funext (Fin.forall_fin_two.mpr ⟨Fin.ext ?_, Fin.ext ?_⟩)
  · show (rowsDims n N wf).start (ix3 i g e) k 0 + (rowsDims n N wf).batchCoord (ix3 i g e) 0 + (rowsDims n N wf).offCoord (ix3 i g e) 0 = _
    rw [GatherDims.batchCoord_eq_zero _ _ _ List.not_mem_nil]
    rw [GatherDims.offCoord_eq_zero _ _ _ (fun h => ((GatherDims.mem_sKept _ _).mp h).1 (by decide : (0 : Fin 2) ∈ [(0 : Fin 2)]))]
    unfold GatherDims.start
    rw [dif_pos (by decide : (0 : Fin 2) ∈ [(0 : Fin 2)])]
    have hsi : (rowsDims n N wf).siIdx (ix3 i g e) ⟨List.idxOf (0 : Fin 2) (rowsDims n N wf).startIndexMap,
        List.idxOf_lt_length_iff.2 (by decide : (0 : Fin 2) ∈ [(0 : Fin 2)])⟩ = ix3 i g 0 := by
      funext f; refine Fin.ext ?_
      match f with
      | ⟨0, _⟩ => rfl
      | ⟨1, _⟩ => rfl
      | ⟨2, _⟩ => rfl
    exact clamp a.isLt hn ((congrArg k hsi).trans hk)
  · show (rowsDims n N wf).start (ix3 i g e) k 1 + (rowsDims n N wf).batchCoord (ix3 i g e) 1 + (rowsDims n N wf).offCoord (ix3 i g e) 1 = _
    rw [GatherDims.batchCoord_eq_zero _ _ _ List.not_mem_nil]
    unfold GatherDims.start
    rw [dif_neg (by decide : (1 : Fin 2) ∉ [(0 : Fin 2)])]
    show 0 + 0 + e.val = e.val
    omega

/-- Elements of a row, at indices of its own. -/
abbrev ownDims (N n q : Nat) (wf : GatherDims.WF ⟨2, ![N, n]⟩ ⟨3, ![N, q, 1]⟩ ⟨2, ![N, q]⟩ [] [1] [0] [1] [0] 2 ![1, 1]) :
    GatherDims ⟨2, ![N, n]⟩ ⟨3, ![N, q, 1]⟩ ⟨2, ![N, q]⟩ where
  offsetDims := []
  collapsedSliceDims := [1]
  operandBatchingDims := [0]
  startIndicesBatchingDims := [0]
  startIndexMap := [1]
  indexVectorDim := 2
  sliceSizes := ![1, 1]
  wf := wf

theorem own_apply {N n q : Nat} (wf) (x : (⟨2, ![N, n]⟩ : Shape).Idx → α) (k : IVec ⟨3, ![N, q, 1]⟩ 32) (i : Fin N) (g : Fin q) (a : Fin n)
    (hn : n ≤ 2 ^ 31) (hk : k (ix3 i g 0) = BitVec.ofNat 32 a) : Host.gather (ownDims N n q wf) x k (ix2 i g) = x (ix2 i a) := by
  unfold Host.gather
  congr 1
  refine funext (Fin.forall_fin_two.mpr ⟨Fin.ext ?_, Fin.ext ?_⟩)
  · show (ownDims N n q wf).start (ix2 i g) k 0 + (ownDims N n q wf).batchCoord (ix2 i g) 0 + (ownDims N n q wf).offCoord (ix2 i g) 0 = _
    rw [GatherDims.offCoord_eq_zero _ _ _ (fun h => ((GatherDims.mem_sKept _ _).mp h).2 (by decide : (0 : Fin 2) ∈ [(0 : Fin 2)])),
      GatherDims.start_batching _ _ _ _ (by decide : (0 : Fin 2) ∈ [(0 : Fin 2)])]
    show 0 + i.val + 0 = i.val
    omega
  · show (ownDims N n q wf).start (ix2 i g) k 1 + (ownDims N n q wf).batchCoord (ix2 i g) 1 + (ownDims N n q wf).offCoord (ix2 i g) 1 = _
    rw [GatherDims.offCoord_eq_zero _ _ _ (fun h => ((GatherDims.mem_sKept _ _).mp h).1 (by decide : (1 : Fin 2) ∈ [(1 : Fin 2)])),
      GatherDims.batchCoord_eq_zero _ _ _ (by decide : (1 : Fin 2) ∉ [(0 : Fin 2)])]
    unfold GatherDims.start
    rw [dif_pos (by decide : (1 : Fin 2) ∈ [(1 : Fin 2)])]
    have hsi : (ownDims N n q wf).siIdx (ix2 i g) ⟨List.idxOf (1 : Fin 2) (ownDims N n q wf).startIndexMap,
        List.idxOf_lt_length_iff.2 (by decide : (1 : Fin 2) ∈ [(1 : Fin 2)])⟩ = ix3 i g 0 := by
      funext f; refine Fin.ext ?_
      match f with
      | ⟨0, _⟩ => rfl
      | ⟨1, _⟩ => rfl
      | ⟨2, _⟩ => rfl
    exact clamp a.isLt hn ((congrArg k hsi).trans hk)

end

end Cert.ReferenceIdeal.Gather

end
-- ==== Proof.RefArgmin.lean ====
/-
  The reference's arg-min along a row: the index of the row's first least value.
-/
module

public import proofs.«01_k».proof.Proof.Gen.ReferenceIdeal
public import proofs.«01_k».proof.Proof.Row

@[expose] public section

noncomputable section

namespace Cert.ReferenceIdeal.Argmin

open Cert.ReferenceIdeal Cert.ReferenceIdeal.Gen Idealize.ShloMosaic

/-- A fold whose every step keeps `P`, and in which an element takes part that absorbs every other among `P`, ends at that
    element. -/
theorem foldl_absorb {α : Type} (f : α → α → α) (P : α → Prop) (e : α) (hP : ∀ a b, P a → P b → P (f a b)) (h1 : ∀ a, P a → f a e = e)
    (h2 : ∀ b, P b → f e b = e) : ∀ (L : List α) (a : α), P a → (∀ b ∈ L, P b) → e ∈ L → L.foldl f a = e
  | [], _, _, _, he => absurd he List.not_mem_nil
  | b :: L, a, ha, hL, he => by
    rw [List.foldl_cons]
    rcases List.mem_cons.mp he with rfl | he
    · rw [h1 a ha]
      exact L.foldlRecOn (motive := fun c => c = e) f rfl fun c hc d hd => by rw [hc]; exact h2 d (hL d (List.mem_cons_of_mem _ hd))
    · exact foldl_absorb f P e hP h1 h2 L _ (hP a b ha (hL b List.mem_cons_self)) (fun c hc => hL c (List.mem_cons_of_mem _ hc)) he

theorem slt_nat (k l : Nat) (hk : k < 630) (hl : l < 630) :
    IntOp.cmpi .slt (BitVec.ofNat 32 k) (BitVec.ofNat 32 l) = BitVec.ofBool (decide (k < l)) := by
  have e : ∀ n < 630, (BitVec.ofNat 32 n).toInt = n := fun n hn => by
    rw [BitVec.toInt_eq_toNat_of_lt (by rw [BitVec.toNat_ofNat, Nat.mod_eq_of_lt (by omega)]; omega), BitVec.toNat_ofNat,
      Nat.mod_eq_of_lt (by omega)]
  show BitVec.ofBool (decide ((BitVec.ofNat 32 k).toInt < (BitVec.ofNat 32 l).toInt)) = _
  rw [e k hk, e l hl]
  congr 1
  exact decide_eq_decide.mpr Int.ofNat_lt

/-- The reducer keeps the smaller value, and of equal ones the smaller index. -/
theorem reducer_eq (a b : EReal) (k l : Nat) (hk : k < 630) (hl : l < 630) :
    reducer_argmin_f32_i32 (F := Ideal) (a, BitVec.ofNat 32 k) (b, BitVec.ofNat 32 l)
      = if a < b ∨ (a = b ∧ k < l) then (a, BitVec.ofNat 32 k) else (b, BitVec.ofNat 32 l) := by
  unfold reducer_argmin_f32_i32
  dsimp only
  rw [slt_nat k l hk hl]
  show (Scalar.select (IntOp.ori (BitVec.ofBool (decide (a < b))) (BitVec.ofBool (decide (a ≠ a)))) a b,
    Scalar.select (IntOp.ori (IntOp.ori (BitVec.ofBool (decide (a < b))) (BitVec.ofBool (decide (a ≠ a))))
      (IntOp.andi (BitVec.ofBool (decide (a = b))) (BitVec.ofBool (decide (k < l))))) (BitVec.ofNat 32 k) (BitVec.ofNat 32 l)) = _
  rw [decide_eq_false (p := a ≠ a) (fun h => h rfl)]
  by_cases h1 : a < b
  · have h2 : a ≠ b := ne_of_lt h1
    simp [h1, h2, IntOp.ori, IntOp.andi, Scalar.select]
  · by_cases h2 : a = b
    · subst h2
      by_cases h3 : k < l <;> simp [h3, IntOp.ori, IntOp.andi, Scalar.select]
    · simp [h1, h2, IntOp.ori, IntOp.andi, Scalar.select]

/-- A value at least the least one, with an index not before the first where it is equal. -/
def Above (f : Fin 630 → EReal) (s : Fin 630) (a : EReal × BitVec 32) : Prop :=
  ∃ v k, k < 630 ∧ a = (v, BitVec.ofNat 32 k) ∧ f s ≤ v ∧ (v = f s → s.val ≤ k)

theorem argmin_apply {N : Nat} {u : Shape} (v : FVec Ideal ⟨2, ![N, 630]⟩ .f32) (y : IVec ⟨2, ![N, 630]⟩ 32) (a : FVec Ideal u .f32) (b : IVec u 32)
    (h : (⟨2, ![N, 630]⟩ : Shape).ReducesTo [1] ⟨1, ![N]⟩) (hu : 0 < u.numel) (i : Fin N) {f : Fin 630 → EReal} (hf : ∀ s, v (ix2 i s) = f s)
    (hy : ∀ s, y (ix2 i s) = BitVec.ofNat 32 s.val) (ha : ∀ k, a k = ⊤) (hb : ∀ k, b k = 0#32) {s : Fin 630} (hs : Row.IsBest f s) :
    (Host.argReduce reducer_argmin_f32_i32 v y a b h hu (ix1 i)).2 = BitVec.ofNat 32 s := by
  rw [Ideal.argReduce_eq_reduce2, Host.reduce2_eq_foldl_fiber]
  have key := foldl_absorb (reducer_argmin_f32_i32 (F := Ideal)) (Above f s) (f s, BitVec.ofNat 32 s) ?_ ?_ ?_
    (Host.argReduceFiber v y h (ix1 i)) (⊤, BitVec.ofNat 32 0) ?_ ?_ ?_
  · rw [ha, hb]
    exact congrArg Prod.snd key
  · rintro _ _ ⟨a, k, hk, rfl, ha, ha'⟩ ⟨b, l, hl, rfl, hb, hb'⟩
    rw [reducer_eq a b k l hk hl]
    split_ifs
    · exact ⟨a, k, hk, rfl, ha, ha'⟩
    · exact ⟨b, l, hl, rfl, hb, hb'⟩
  · rintro _ ⟨a, k, hk, rfl, ha, ha'⟩
    rw [reducer_eq a (f s) k s hk s.isLt, if_neg]
    rintro (h | ⟨h, hlt⟩)
    · exact absurd h (not_lt.mpr ha)
    · exact absurd hlt (not_lt.mpr (ha' h))
  · rintro _ ⟨b, l, hl, rfl, hb, hb'⟩
    rw [reducer_eq (f s) b s l s.isLt hl]
    by_cases e : b = f s
    · subst e
      rcases (hb' rfl).lt_or_eq with h | h
      · rw [if_pos (Or.inr ⟨rfl, h⟩)]
      · rw [h, ite_self]
    · rw [if_pos (Or.inl (lt_of_le_of_ne hb (Ne.symm e)))]
  · exact ⟨⊤, 0, by decide, rfl, le_top, fun h => hs.2 0 (top_le_iff.mp (h.le.trans (hs.1 0)) |>.trans h)⟩
  · intro q hq
    obtain ⟨n, hn, rfl⟩ := List.mem_map.mp hq
    obtain ⟨t, ht⟩ := (h.fiber_r2_a1 (ix1 i) _).mp (of_decide_eq_true (List.mem_filter.mp hn).2)
    rw [← ht]
    exact ⟨f t, t, t.isLt, Prod.ext (hf t) (hy t), hs.1 t, hs.2 t⟩
  · refine List.mem_map.mpr ⟨Shape.rowMajor _ (ix2 i s), List.mem_filter.mpr ⟨List.mem_finRange _, decide_eq_true ?_⟩, ?_⟩
    · rw [Equiv.symm_apply_apply]
      exact (h.fiber_r2_a1 (ix1 i) _).mpr ⟨s, rfl⟩
    · rw [Equiv.symm_apply_apply]
      exact Prod.ext (hf s) (hy s)

end Cert.ReferenceIdeal.Argmin

end
-- ==== Proof.RefAt.lean ====
/-
  The reference at an index: its result array is the answer, row by row.
-/
module

public import proofs.«01_k».proof.Proof.RefGather
public import proofs.«01_k».proof.Proof.RefArgmin
public import proofs.«01_k».proof.Proof.Answer
public import Idealize.ShloMosaic.Lib.Tactic.WordOmega

@[expose] public section

set_option maxRecDepth 16384

noncomputable section

namespace Cert.ReferenceIdeal.At

open Cert.Answer Cert.ReferenceIdeal Cert.ReferenceIdeal.Gen Cert.ReferenceIdeal.Host Cert.ReferenceIdeal.Gather Cert.Tables Idealize.ShloMosaic

variable (x : FVec Ideal S400000x10x4 .f32) (i : Fin 400000)

/-! ## Angles and pair distances -/

theorem eta_apply (j : Fin 10) : Host.eta x (ix2 i j) = Row.eta (jetsAt x i) j := by
  pointwise [Host.eta, px, py, pz]
  rfl

theorem phi_apply (j : Fin 10) : Host.phi x (ix2 i j) = Row.phi (jetsAt x i) j := by
  pointwise [Host.phi, px, py]
  rfl

/-- An index that is not negative stays. -/
theorem wrap_apply {s : Shape} (h) (n : BitVec 32) (k : IVec s 32) (y : s.Idx) (a : Nat) (ha : a < 2 ^ 31) (hk : k y = BitVec.ofNat 32 a) :
    wrap h n k y = BitVec.ofNat 32 a := by
  pointwise [wrap]
  rw [hk]
  have : IntOp.cmpi .slt (BitVec.ofNat 32 a) 0#32 = 0#1 := by word_omega
  rw [this]
  rfl

theorem pair0_apply (c : Fin 45) : pair0 pairs (ix1 c) = BitVec.ofNat 32 (A c) := by
  pointwise [pair0, pairs]
  exact ref_pair0 c
theorem pair1_apply (c : Fin 45) : pair1 pairs (ix1 c) = BitVec.ofNat 32 (B c) := by
  pointwise [pair1, pairs]
  exact ref_pair1 c
theorem combo0_apply (s : Fin 630) : combo0 combos (ix1 s) = BitVec.ofNat 32 (C s) := by
  pointwise [combo0, combos]
  exact ref_combo0 s
theorem combo1_apply (s : Fin 630) : combo1 combos (ix1 s) = BitVec.ofNat 32 (D s) := by
  pointwise [combo1, combos]
  exact ref_combo1 s

theorem cols10_apply (v : FVec Ideal S400000x10 .f32) (k : IVec S45 32) (c : Fin 45) (a : Fin 10) (hk : k (ix1 c) = BitVec.ofNat 32 a) :
    cols10 v k (ix2 i c) = v (ix2 i a) :=
  col_apply _ v _ i c a (by decide) (by pointwise; exact wrap_apply _ _ _ _ a (by omega) hk)
theorem cols45_apply (v : FVec Ideal S400000x45 .f32) (k : IVec S630 32) (c : Fin 630) (a : Fin 45) (hk : k (ix1 c) = BitVec.ofNat 32 a) :
    cols45 v k (ix2 i c) = v (ix2 i a) :=
  col_apply _ v _ i c a (by decide) (by pointwise; exact wrap_apply _ _ _ _ a (by omega) hk)

/-- The remainder with the divisor's sign and the half turn's two shifts bring an angle into one turn about zero. -/
theorem fold_form (q : EReal) {t : EReal} (ht : t = Ideal.remf (q + Row.pi) Row.twoPi) :
    Scalar.select (IntOp.andi (IntOp.cmpi .ne (BitVec.ofBool (decide (t < 0))) (BitVec.ofBool (decide (Row.twoPi < 0))))
      (BitVec.ofBool (decide (t ≠ 0)))) (t + Row.twoPi) t - Row.pi = Row.fold q := by
  rw [Row.select_rem (t := t) _ _ _ _ ?_ rfl]
  · rw [ht]; rfl
  · rw [decide_eq_false Row.twoPi_pos]
    cases decide (t < 0) <;> rfl

theorem dist_apply (c : Fin 45) : refDist x (ix2 i c) = pairDist (jetsAt x i) c := by
  pointwise [refDist, Host.dist, dEta, dPhiPi, modulo, over45]
  rw [cols10_apply i _ _ c _ (pair0_apply c), cols10_apply i _ _ c _ (pair1_apply c), cols10_apply i _ _ c _ (pair0_apply c),
    cols10_apply i _ _ c _ (pair1_apply c), eta_apply, eta_apply, phi_apply, phi_apply]
  exact congrArg (fun d => Ideal.sqrt (_ + d * d)) (fold_form (Row.phi (jetsAt x i) (A c) - Row.phi (jetsAt x i) (B c)) rfl)

theorem measure_apply (s : Fin 630) : refMeasure x (ix2 i s) = score (jetsAt x i) s := by
  pointwise [refMeasure, Host.measure, rawMeasure, over630]
  rw [cols45_apply i _ _ s _ (combo0_apply s), cols45_apply i _ _ s _ (combo1_apply s), dist_apply, dist_apply, if_neg (fun h => h rfl)]
  rfl

/-! ## The arg-min -/

/-- The best combination as the arg-min it is written with. -/
theorem best_eq (v : FVec Ideal S400000x630 .f32) : Host.best v = fun j => (Host.argReduce reducer_argmin_f32_i32 v (iotaInDim S400000x630 32 1)
    (constant S_ .f32 0x7F800000#32) (constantI S_ 32 0#32) reducesTo_S400000x630_S400000_d1 h_S_ j).2 := rfl

theorem argmin_apply (v : FVec Ideal S400000x630 .f32) {f : Fin 630 → EReal} (hf : ∀ s, v (ix2 i s) = f s) {s : Fin 630} (hs : Row.IsBest f s) :
    Host.best v (ix1 i) = BitVec.ofNat 32 s :=
  (congrFun (best_eq v) (ix1 i)).trans
    (Argmin.argmin_apply v _ _ _ reducesTo_S400000x630_S400000_d1 h_S_ i hf (fun _ => rfl) (fun _ => Row.top_word) (fun _ => rfl) hs)

theorem best_apply : refBest x (ix1 i) = BitVec.ofNat 32 (Answer.best (jetsAt x i)) :=
  argmin_apply i (refMeasure x) (measure_apply x i) (best_spec (jetsAt x i))

/-! ## The looked-up blocks -/

/-- A combination's pair, and a pair's jet. -/
def pairOf (s : Fin 630) (e : Fin 2) : Fin 45 := if e = 0 then C s else D s
def jetOf (c : Fin 45) (e : Fin 2) : Fin 10 := if e = 0 then A c else B c

theorem combos_apply (s : Fin 630) : ∀ e, combos (ix2 s e) = BitVec.ofNat 32 (pairOf s e) := Fin.forall_fin_two.mpr ⟨ref_combo0 s, ref_combo1 s⟩
theorem pairs_apply (c : Fin 45) : ∀ e, pairs (ix2 c e) = BitVec.ofNat 32 (jetOf c e) := Fin.forall_fin_two.mpr ⟨ref_pair0 c, ref_pair1 c⟩

theorem pairs_chosen (e : Fin 2) : refPairs x (ix2 i e) = BitVec.ofNat 32 (pairOf (Answer.best (jetsAt x i)) e) :=
  (row_apply _ combos _ i e (Answer.best (jetsAt x i)) (by decide) (by pointwise; exact wrap_apply _ _ _ _ _ (by omega) (best_apply x i))).trans
    (combos_apply _ e)

theorem sitofp_nat (n : Nat) (hn : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat, Nat.mod_eq_of_lt (by omega)]; omega), BitVec.toNat_ofNat,
      Nat.mod_eq_of_lt (by omega)]
  rfl

theorem pay_eq (s : Fin 630) : ∀ q : Fin 4, pay s (q.castLE (by decide)) = (jetOf (pairOf s ⟨q / 2, by omega⟩) ⟨q % 2, by omega⟩).val := by
  intro q; fin_cases q <;> rfl

theorem labels_apply (k : IVec S400000x2 32) (s : Fin 630) (hk : ∀ e, k (ix2 i e) = BitVec.ofNat 32 (pairOf s e)) (q : Fin 4) :
    Host.labels (F := Ideal) pairs k (ix2 i q) = ((pay s (q.castLE (by decide)) : ℝ) : EReal) := by
  pointwise [Host.labels]
  refine (congrArg (FloatOps.sitofp (F := Ideal) .f32) ((rows_apply _ pairs _ i ⟨q / 2, by omega⟩ ⟨q % 2, by omega⟩ (pairOf s ⟨q / 2, by omega⟩) (by decide) ?_).trans
    (pairs_apply _ _))).trans ((sitofp_nat _ (by omega)).trans (by rw [pay_eq]))
  pointwise
  exact hk _

/-- A wrapped index is in its row, so the lookup is taken. -/
theorem in45 : ∀ c : Fin 45, IntOp.andi (IntOp.cmpi .sge (BitVec.ofNat 32 c) 0#32) (IntOp.cmpi .sle (BitVec.ofNat 32 c) 44#32) = 1#1 := by decide
theorem in630 : ∀ s : Fin 630, IntOp.andi (IntOp.cmpi .sge (BitVec.ofNat 32 s) 0#32) (IntOp.cmpi .sle (BitVec.ofNat 32 s) 629#32) = 1#1 := by decide +kernel

theorem takeDr_apply (r : FVec Ideal S400000x45 .f32) (k : IVec S400000x2 32) (e : Fin 2) (c : Fin 45) (hk : k (ix2 i e) = BitVec.ofNat 32 c) :
    takeDr r k (ix2 i e) = r (ix2 i c) := by
  have hw := wrap_apply bcast_S_S400000x2 45#32 k (ix2 i e) c (by omega) hk
  pointwise [takeDr]
  rw [hw, in45]
  exact own_apply _ r _ i e c (by decide) (by pointwise; exact hw)

theorem takeM_apply (v : FVec Ideal S400000x630 .f32) (k : IVec S400000 32) (s : Fin 630) (hk : k (ix1 i) = BitVec.ofNat 32 s) (e : Fin 1) :
    takeM v k (ix2 i e) = v (ix2 i s) := by
  obtain rfl : e = 0 := Subsingleton.elim _ _
  have hw := wrap_apply bcast_S_S400000x1 630#32 (broadcastInDim S400000x1 ![0] bcast_S400000_S400000x1_0 k) (ix2 i 0) s (by omega)
    (by pointwise; exact hk)
  pointwise [takeM]
  rw [hw, in630]
  exact own_apply _ v _ i 0 s (by decide) (by pointwise; exact hw)

/-! ## The result -/

theorem out_apply (k : Fin 7) : refOut x (ix2 i k) = cols (jetsAt x i) k := by
  pointwise [refOut, joined]
  unfold cols
  by_cases h4 : k.val < 4
  · rw [dif_pos h4, dif_pos h4]
    exact labels_apply i _ _ (fun e => wrap_apply _ _ _ _ _ (by omega) (pairs_chosen x i e)) ⟨k, h4⟩
  · rw [dif_neg h4, dif_neg h4]
    by_cases h6 : k.val - 4 < 2
    · rw [dif_pos h6]
      refine (takeDr_apply i _ _ ⟨k.val - 4, h6⟩ _ (pairs_chosen x i _)).trans ((dist_apply x i _).trans ?_)
      by_cases h : k.val = 4
      · rw [if_pos h, show (⟨k.val - 4, h6⟩ : Fin 2) = 0 from Fin.ext (by show k.val - 4 = 0; omega)]
        rfl
      · rw [if_neg h, if_pos (by omega), show (⟨k.val - 4, h6⟩ : Fin 2) = 1 from Fin.ext (by show k.val - 4 = 1; omega)]
        rfl
    · rw [dif_neg h6]
      refine (takeM_apply i _ _ _ (best_apply x i) _).trans ((measure_apply x i _).trans ?_)
      rw [if_neg (by omega), if_neg (by omega)]

/-- The reference's result array is the answer. -/
theorem out_eq : refOut x = answer x := by
  funext j
  rw [eq_ix2 j]
  exact out_apply x _ _

end Cert.ReferenceIdeal.At

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.On_rows_written
public import proofs.«01_k».proof.Proof.Result
public import proofs.«01_k».proof.Proof.RefAt
public import Idealize.ShloMosaic.Lib.Pointwise
public import Idealize.ShloMosaic.Lib.Tactic.WordOmega
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its argument as it was and every counter at zero. -/
theorem reference_frame [Cert.ReferenceIdeal.Facts] : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Host.run (F := Ideal) m ρ)

/-- The mask is set only on the rows that the grid covers. -/
theorem row_of_mask [Cert.On_rows_written.Facts] (x : FVec Ideal Cert.On_rows_written.S400000x10x4 .f32)
    (i : (⟨2, ![400000, 7]⟩ : Shape).Idx) (h : Cert.On_rows_written.fn (F := Ideal) x i = 1#1) : (i 0 : Nat) < 399360 := by
  have hi : (i 0 : Nat) < 400000 := (i 0).isLt
  pointwise [Cert.On_rows_written.fn] at h
  generalize (i 0 : Nat) = a at h hi ⊢
  by_contra hge
  have h0 : IntOp.cmpi .slt (BitVec.ofNat 32 a) 399360#32 = 0#1 := by word_omega
  rw [h0] at h
  exact absurd h (by decide)

/-- Both programs end with the answer on the rows that the grid covers. -/
theorem values [Cert.KernelIdeal.Facts] : algebraic_KernelIdeal_ReferenceIdeal_on_rows_written := by
  intro m ρ m' ρ' _ hagree
  refine ⟨fun c => Answer.answer (m ((c.tc : Thread Cert.KernelIdeal.nD Cert.KernelIdeal.τ).loc Cert.KernelIdeal.main_arg0)), ?_, ?_⟩
  · refine (θ_run Cert.KernelIdeal.defs _ _).mono (fun r h c => ⟨fun i hi => ?_, (h c).2⟩) (Cert.KernelIdeal.Value.run_blocks m ρ)
    rw [(h c).1, Cert.KernelIdeal.Result.array m c]
    exact if_pos (row_of_mask _ i hi)
  · refine (θ_run Cert.ReferenceIdeal.defs _ _).mono (fun r h c => ⟨fun i _ => ?_, (h c).2⟩) (Cert.ReferenceIdeal.Host.run (F := Ideal) m' ρ')
    rw [(h c).1, Cert.ReferenceIdeal.At.out_eq, hagree c]

theorem claim : Cert.Claim :=
  ⟨Cert.Kernel.Gen.facts, Cert.KernelIdeal.Gen.facts, Cert.ReferenceIdeal.Gen.facts, Cert.On_rows_written.Gen.facts,
    fun m ρ _ => Cert.Kernel.Gen.frame m ρ, fun m ρ _ => Cert.KernelIdeal.Gen.frame m ρ, reference_frame,
    ⟨IdealRules.named_const.statement Cert.KernelIdeal.κ "guard" .f32 0x5F0AC723#32 ⊤ rfl,
      IdealRules.sign_bit.statement Cert.KernelIdeal.S16x256 .f32,
      IdealRules.named_const.statement Cert.KernelIdeal.κ "cap" .f32 0x7F61B1E6#32 ⊤ rfl⟩, values⟩

end Cert.Proof

end
